-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x32 : Shape := ⟨3, ![16, 1024, 32]⟩
abbrev S32x8192 : Shape := ⟨2, ![32, 8192]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S16384x8192 : Shape := ⟨2, ![16384, 8192]⟩
abbrev S1x8192 : Shape := ⟨2, ![1, 8192]⟩
abbrev S8192x32 : Shape := ⟨2, ![8192, 32]⟩
abbrev S8192x128 : Shape := ⟨2, ![8192, 128]⟩
abbrev S128x128 : Shape := ⟨2, ![128, 128]⟩
abbrev S32x16 : Shape := ⟨2, ![32, 16]⟩
abbrev S4x128 : Shape := ⟨2, ![4, 128]⟩
abbrev S512x128 : Shape := ⟨2, ![512, 128]⟩
abbrev S512x32 : Shape := ⟨2, ![512, 32]⟩
abbrev S16 : Shape := ⟨1, ![16]⟩
abbrev S1x128 : Shape := ⟨2, ![1, 128]⟩
abbrev S128 : Shape := ⟨1, ![128]⟩
abbrev S1x16 : Shape := ⟨2, ![1, 16]⟩

abbrev nBuf : Table → Nat
  | .hbm => 40
  | .local .scVector .vmem => 4
  | _ => 0

abbrev bufTy : (tb : Table) → Fin (nBuf tb) → BufTy
  | .hbm, ⟨0, _⟩ => ⟨S16x1024x32, .f32⟩
  | .hbm, ⟨1, _⟩ => ⟨S32x8192, .f32⟩
  | .hbm, ⟨2, _⟩ => ⟨S16384x32, .f32⟩
  | .hbm, ⟨3, _⟩ => ⟨S16384x32, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S32x8192, .f32⟩
  | .hbm, ⟨8, _⟩ => ⟨S_, .f32⟩
  | .hbm, ⟨9, _⟩ => ⟨S8192, .f32⟩
  | .hbm, ⟨10, _⟩ => ⟨S16384x32, .bf16⟩
  | .hbm, ⟨11, _⟩ => ⟨S16384x8192, .f32⟩
  | .hbm, ⟨12, _⟩ => ⟨S1x8192, .f32⟩
  | .hbm, ⟨13, _⟩ => ⟨S16384x8192, .f32⟩
  | .hbm, ⟨14, _⟩ => ⟨S16384x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S16384x8192, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S8192x32, .f32⟩
  | .hbm, ⟨26, _⟩ => ⟨S_, .i32⟩
  | .hbm, ⟨27, _⟩ => ⟨S_, .f32⟩
  | .hbm, ⟨28, _⟩ => ⟨S8192x128, .f32⟩
  | .hbm, ⟨29, _⟩ => ⟨S128x128, .i32⟩
  | .hbm, ⟨30, _⟩ => ⟨S16384x32, .f32⟩
  | .hbm, ⟨31, _⟩ => ⟨S32x16, .f32⟩
  | .hbm, ⟨32, _⟩ => ⟨S16x1024x32, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local .scVector .vmem, ⟨0, _⟩ => ⟨S4x128, .i32⟩
  | .local .scVector .vmem, ⟨1, _⟩ => ⟨S512x128, .f32⟩
  | .local .scVector .vmem, ⟨2, _⟩ => ⟨S512x32, .f32⟩
  | .local .scVector .vmem, ⟨3, _⟩ => ⟨S16, .f32⟩
  | _, _ => ⟨S16x1024x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call1_v0 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v17_scv : Ref sig .scVector := ⟨.hbm, 28, rfl⟩
abbrev main_v18_scv : Ref sig .scVector := ⟨.hbm, 29, rfl⟩
abbrev main_v0_scv : Ref sig .scVector := ⟨.hbm, 2, rfl⟩
abbrev main_v19_0_scv : Ref sig .scVector := ⟨.hbm, 30, rfl⟩
abbrev main_v19_1_scv : Ref sig .scVector := ⟨.hbm, 31, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_46_r0 : BitVec 32 := 0#32
  ![v3.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_46_r1 : BitVec 32 := 0#32
  ![v2.toNat, 0]
@[reducible] def k0_t1_loop : Scf.Loop 32 :=
  let c0_i32_42 : BitVec 32 := 0#32
  let c512_i32_43 : BitVec 32 := 512#32
  let v37 : BitVec 32 := Scalar.addi c0_i32_42 c512_i32_43
  let c1_i32_44 : BitVec 32 := 1#32
  ⟨c0_i32_42, v37, c1_i32_44⟩
def k0_off3 (k0_t1 : Fin k0_t1_loop.trips) : Fin 2 → Nat :=
  let c0_i32_42 : BitVec 32 := 0#32
  let c1_i32_44 : BitVec 32 := 1#32
  let arg12 : BitVec 32 := Scf.iv c0_i32_42 c1_i32_44 k0_t1
  let v42 : Index := Scalar.indexCast arg12
  let c0_46 : Index := 0#32
  ![v42.toNat, 0]
def k0_off4 (k0_t1 : Fin k0_t1_loop.trips) : Fin 2 → Nat :=
  let c0_i32_42 : BitVec 32 := 0#32
  let c1_i32_44 : BitVec 32 := 1#32
  let arg12 : BitVec 32 := Scf.iv c0_i32_42 c1_i32_44 k0_t1
  let v45 : Index := Scalar.indexCast arg12
  let c0_47 : Index := 0#32
  ![v45.toNat, 0]
def k0_off5 (k0_t1 : Fin k0_t1_loop.trips) : Fin 2 → Nat :=
  let c0_i32_42 : BitVec 32 := 0#32
  let c1_i32_44 : BitVec 32 := 1#32
  let arg12 : BitVec 32 := Scf.iv c0_i32_42 c1_i32_44 k0_t1
  let v58 : Index := Scalar.indexCast arg12
  let c16 : Index := 16#32
  ![v58.toNat, 16]
def k0_off6 (k0_t1 : Fin k0_t1_loop.trips) : Fin 2 → Nat :=
  let c0_i32_42 : BitVec 32 := 0#32
  let c1_i32_44 : BitVec 32 := 1#32
  let arg12 : BitVec 32 := Scf.iv c0_i32_42 c1_i32_44 k0_t1
  let v61 : Index := Scalar.indexCast arg12
  let c16_49 : Index := 16#32
  ![v61.toNat, 16]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_46_r3 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x1024x32 : Shape := ⟨3, ![16, 1024, 32]⟩
abbrev S32x8192 : Shape := ⟨2, ![32, 8192]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S8192x32 : Shape := ⟨2, ![8192, 32]⟩

abbrev nBuf : Space → Nat
  | .hbm => 50
  | .vmem => 0
  | .smem => 0
  | _ => 0

abbrev bufTy : (tb : Table) → Fin (tcTables nBuf tb) → BufTy
  | .hbm, ⟨0, _⟩ => ⟨S16x1024x32, .f32⟩
  | .hbm, ⟨1, _⟩ => ⟨S32x8192, .f32⟩
  | .hbm, ⟨2, _⟩ => ⟨S16384x32, .f32⟩
  | .hbm, ⟨3, _⟩ => ⟨S16384x32, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S32x8192, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S_, .f32⟩
  | .hbm, ⟨16, _⟩ => ⟨S16384x8192, .f32⟩
  | .hbm, ⟨17, _⟩ => ⟨S16384x8192, .f32⟩
  | .hbm, ⟨18, _⟩ => ⟨S16384x8192, .f32⟩
  | .hbm, ⟨19, _⟩ => ⟨S16384x8192, .i32⟩
  | .hbm, ⟨20, _⟩ => ⟨S_, .f32⟩
  | .hbm, ⟨21, _⟩ => ⟨S_, .i32⟩
  | .hbm, ⟨22, _⟩ => ⟨S16384, .f32⟩
  | .hbm, ⟨23, _⟩ => ⟨S16384, .i32⟩
  | .hbm, ⟨24, _⟩ => ⟨S16384x1, .i32⟩
  | .hbm, ⟨25, _⟩ => ⟨S1x8192, .i32⟩
  | .hbm, ⟨26, _⟩ => ⟨S16384x8192, .i32⟩
  | .hbm, ⟨27, _⟩ => ⟨S16384x8192, .i32⟩
  | .hbm, ⟨28, _⟩ => ⟨S16384x8192, .i1⟩
  | .hbm, ⟨29, _⟩ => ⟨S16384x8192, .f32⟩
  | .hbm, ⟨30, _⟩ => ⟨S8192x32, .f32⟩
  | .hbm, ⟨31, _⟩ => ⟨S16384x32, .f32⟩
  | .hbm, ⟨32, _⟩ => ⟨S16x1024x32, .f32⟩
  | .hbm, ⟨33, _⟩ => ⟨S16x1024x32, .f32⟩
  | .hbm, ⟨34, _⟩ => ⟨S16x1024x32, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16x1024x32, .f32⟩
  | .hbm, ⟨42, _⟩ => ⟨S16x1024x32, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16x1024x32, .f32⟩
  | .hbm, ⟨49, _⟩ => ⟨S16x1024x32, .f32⟩
  | _, _ => ⟨S16x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Proof.Values.lean ====
/-
  What one run of the SparseCore kernel computes, as plain functions of the arrays it reads.

  The kernel has a table of 8192 rows (128 lanes, of which 32 are used), 16384 row numbers laid out as a [128, 128]
  array, and 16384 rows of input. Worker `w` of 32 takes the 512 rows from `512·w` on: it gathers the table's row that
  each row number names, replaces each input row `z` by `z + (q − z)` with `q` the gathered row, and adds up the squares
  of `q − z`, sixteen lanes at a time, into one vector of sixteen partial sums.
-/
module

public import proofs.«01_k».proof.Proof.Gen.KernelIdeal.Skeleton
public import Idealize.ShloMosaic.Lib.ValueIdxCore

@[expose] public section

noncomputable section

namespace Cert.Proof.Values

open Cert.KernelIdeal Cert.KernelIdeal.Gen
open Idealize.ShloMosaic Idealize.ShloMosaic.ValueIdx

variable {F : FTy → Type} [FloatOps F]

/-- The contents of arrays of the kernel's shapes. -/
abbrev Table (F : FTy → Type) : Type := S8192x128.Idx → F .f32
abbrev Nums : Type := S128x128.Idx → BitVec 32
abbrev Rows (F : FTy → Type) : Type := S16384x32.Idx → F .f32
abbrev Parts (F : FTy → Type) : Type := S32x16.Idx → F .f32

omit [FloatOps F] in
/-- The rows a list of 4 × 128 row numbers gathers out of the table. -/
def gathered (T : Table F) (I : S4x128.Idx → BitVec 32) : S512x128.Idx → F .f32 := fun x =>
  T (ix2 (Fin.ofNat 8192 (I (ix2 ⟨(x 0).val / 128, by have := idx2_lt0 x; omega⟩ ⟨(x 0).val % 128, by omega⟩)).toNat) (x 1))

/-- One element of the result: `z + (q − z)`. -/
def shift (z q : F .f32) : F .f32 := FloatOps.addf z (FloatOps.subf q z)

/-- The gathered rows with the first `k` of them replaced by the result's rows (in their first 32 lanes). -/
def rowsAt (G : S512x128.Idx → F .f32) (Z : S512x32.Idx → F .f32) (k : ℕ) : S512x128.Idx → F .f32 := fun x =>
  if h : (x 0).val < k ∧ (x 1).val < 32 then shift (Z (ix2 (x 0) ⟨(x 1).val, h.2⟩)) (G x) else G x

omit [FloatOps F] in
/-- Sixteen lanes of a row of the gathered rows, and of the input rows, from lane `o` on. -/
def gLane (G : S512x128.Idx → F .f32) (r : Fin 512) (o : ℕ) (ho : o + 16 ≤ 128) : Vec F S1x16 .f32 := fun i =>
  G (ix2 r ⟨o + (i 1).val, by have := idx2_lt1 i; omega⟩)
omit [FloatOps F] in
def zLane (Z : S512x32.Idx → F .f32) (r : Fin 512) (o : ℕ) (ho : o + 16 ≤ 32) : Vec F S1x16 .f32 := fun i =>
  Z (ix2 r ⟨o + (i 1).val, by have := idx2_lt1 i; omega⟩)

/-- The sixteen partial sums after row `r`, from those before it. -/
def accStep (G : S512x128.Idx → F .f32) (Z : S512x32.Idx → F .f32) (a : FVec F S16 .f32) (r : Fin 512) : FVec F S16 .f32 :=
  k0_pay7 a (gLane G r 0 (by omega)) (zLane Z r 0 (by omega)) (gLane G r 16 (by omega)) (zLane Z r 16 (by omega))

/-- The sixteen partial sums over the first `k` rows. -/
def accAt (G : S512x128.Idx → F .f32) (Z : S512x32.Idx → F .f32) : ℕ → FVec F S16 .f32
  | 0 => k0_pay9
  | k + 1 => if h : k < 512 then accStep G Z (accAt G Z k) ⟨k, h⟩ else accAt G Z k

omit [FloatOps F] in
/-- Worker `w`'s 4 × 128 row numbers and its 512 input rows. -/
def numsOf (I : Nums) (w : Fin 32) : S4x128.Idx → BitVec 32 := fun x =>
  I (ix2 ⟨4 * w.val + (x 0).val, by have := idx2_lt0 x; omega⟩ (x 1))
omit [FloatOps F] in
def rowsOf (Z : Rows F) (w : Fin 32) : S512x32.Idx → F .f32 := fun x =>
  Z (ix2 ⟨512 * w.val + (x 0).val, by have := idx2_lt0 x; omega⟩ (x 1))

omit [FloatOps F] in
/-- Worker `w`'s gathered rows. -/
def gOf (T : Table F) (I : Nums) (w : Fin 32) : S512x128.Idx → F .f32 := gathered T (numsOf I w)

/-- The whole first result: every input row shifted to the table row its number names. -/
def zqOut (T : Table F) (I : Nums) (Z : Rows F) : Rows F := fun x =>
  shift (Z x) (T (ix2 (Fin.ofNat 8192 (I (ix2 ⟨(x 0).val / 128, by have := idx2_lt0 x; omega⟩ ⟨(x 0).val % 128, by omega⟩)).toNat)
    ⟨(x 1).val, by have := idx2_lt1 x; omega⟩))

/-- The whole second result: row `w` is worker `w`'s sixteen partial sums. -/
def lpOut (T : Table F) (I : Nums) (Z : Rows F) : Parts F := fun x =>
  accAt (gOf T I (x 0)) (rowsOf Z (x 0)) 512 (ix1 (x 1))

end Cert.Proof.Values

end
-- ==== Proof.Setup.lean ====
/-
  The launch: the program as the launch theorem sees it, the ghost state, the arrays the one SparseCore call works on,
  and what each of its 32 tiles is handed and brings back.

  Every tile reads the table, the row numbers and the input through a share of the whole array; the two arrays the call
  writes are dealt by blocks: tile `(c, s)` is worker `2·s + c` and owns 512 rows of the first result and one row of
  the second.
-/
module

public import proofs.«01_k».proof.Proof.Values
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Setup

open Cert.KernelIdeal Cert.KernelIdeal.Gen
open Cert.Proof.Values

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the program's semaphores and arrays. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the launch's handshakes and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev tLoc (d : Dev nD) : Loc nD τ sig := (SparseCore.T d).loc main_v17
abbrev iLoc (d : Dev nD) : Loc nD τ sig := (SparseCore.T d).loc main_v18
abbrev zLoc (d : Dev nD) : Loc nD τ sig := (SparseCore.T d).loc main_v0
abbrev oLoc (d : Dev nD) : Loc nD τ sig := (SparseCore.T d).loc main_v19_0
abbrev pLoc (d : Dev nD) : Loc nD τ sig := (SparseCore.T d).loc main_v19_1

/-- The arrays as a tile addresses them, and its own memory. -/
abbrev tV : Memref sig .scVector .hbm S8192x128 .f32 := Memref.whole main_v17_scv
abbrev iV : Memref sig .scVector .hbm S128x128 .i32 := Memref.whole main_v18_scv
abbrev zV : Memref sig .scVector .hbm S16384x32 .f32 := Memref.whole main_v0_scv
abbrev oV : Memref sig .scVector .hbm S16384x32 .f32 := Memref.whole main_v19_0_scv
abbrev pV : Memref sig .scVector .hbm S32x16 .f32 := Memref.whole main_v19_1_scv
abbrev nV : Memref sig .scVector .vmem S4x128 .i32 := Memref.whole cc0_scratch0
abbrev rV : Memref sig .scVector .vmem S512x128 .f32 := Memref.whole cc0_scratch1
abbrev xV : Memref sig .scVector .vmem S512x32 .f32 := Memref.whole cc0_scratch2
abbrev aV : Memref sig .scVector .vmem S16 .f32 := Memref.whole cc0_scratch3

abbrev cV (L : grid0.Coords) : Fin τ.nSC := (L 0).castLE hcore0
abbrev jV (L : grid0.Coords) : Fin τ.nSub := (L 1).castLE hsub0

/-- The thread of tile `L` of device `d`. -/
abbrev thr (d : Dev nD) (L : grid0.Coords) : Thread nD τ := V d (cV L) (jV L)

/-- Tile `L`'s worker number. -/
def wid (L : grid0.Coords) : Fin 32 := ⟨2 * (L 1).val + (L 0).val, by
  have h0 : (L 0).val < 2 := (L 0).isLt
  have h1 : (L 1).val < 16 := (L 1).isLt
  omega⟩

/-- Tile `L`'s blocks of the two results, as the program slices them. -/
abbrev oBlk (L : grid0.Coords) : Memref sig .scVector .hbm S512x32 .f32 :=
  (oV).slice (Rect.unit (s := S16384x32) (k0_off2 L) S512x32.size (k0_off2_inb L)) (fun _ => rfl)
abbrev pRow (L : grid0.Coords) : Memref sig .scVector .hbm S16 .f32 :=
  ((pV).slice (Rect.unit (s := S32x16) (k0_off7 L) S1x16.size (k0_off7_inb L)) (fun _ => rfl)).squeeze S16 squeezes_S1x16_S16

/-- Tile `L`'s share of an array read by all: a sixteenth of a half. -/
def tileShare (L : grid0.Coords) : PosShare TreeShare :=
  pieceOf (pieceOf fullShare 2 (by omega) (L 0)) 16 (by omega) (L 1)

variable [FloatOps F]

/-- What tile `L` works with, the two results' blocks at contents `fo`, `fp`. -/
def tileHeld (d : Dev nD) (L : grid0.Coords) (tb : Table F) (nm : Nums) (z : Rows F) (fo : Rows F) (fp : Parts F) : sProp 𝕄 :=
  iprop((tLoc d ↦{tileShare L} (tb : Buf (Elt F) (tLoc d))) ∗ (iLoc d ↦{tileShare L} (nm : Buf (Elt F) (iLoc d)))
    ∗ (zLoc d ↦{tileShare L} (z : Buf (Elt F) (zLoc d)))
    ∗ (oLoc d ↦[(oBlk L).view.set]{fullShare} (fo : Buf (Elt F) (oLoc d)))
    ∗ (pLoc d ↦[(pRow L).view.set]{fullShare} (fp : Buf (Elt F) (pLoc d))))

instance tileHeld_storable (d : Dev nD) (L : grid0.Coords) (tb : Table F) (nm : Nums) (z : Rows F) (fo : Rows F) (fp : Parts F) :
    BI.Storable (upEmb : UEmb _ 𝕄) (tileHeld d L tb nm z fo fp) := by
  unfold tileHeld; infer_instance

def coordsV (c : Fin (grid0.bound 0)) (s : Fin (grid0.bound 1)) : grid0.Coords :=
  fun | 0 => c | 1 => s | ⟨_ + 2, h⟩ => absurd h (Nat.not_lt.2 (Nat.le_add_left _ _))

end Cert.Proof.Setup

end
-- ==== Proof.GatherBatch.lean ====
/-
  Several indirect gathers in flight on ONE DMA semaphore, as one counted batch.

  A gather out of a table moves one row per entry of its offset list, each row paying its own credit. When every row
  pays the same amount `N`, the rows of several gathers issued one after another on one semaphore are the transfers of
  one batch (`Transfers.Batch`): entry `j` of a gather issued when `k` transfers have been is transfer `k + j`.
  `lane` is what entry `j` brings back: its row of the destination written, its entry of the list, its piece of the
  table's share. `wp_gatherIntoBatch` is the issue of one gather; `lanes_join` puts a gather's rows together again.
-/
module

public import Idealize.ShloMosaic.Lib.Batch
public import Idealize.ShloMosaic.Lib.SparseCore.Stream

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

section Pending

variable {M : Type} [URA M]

/-- The transfers pending from `k` are the next `o` and those pending from `k + o`. -/
theorem pending_next {n : ℕ} (Φ : Fin n → sProp M) {k o : ℕ} (h : k + o ≤ n) :
    bigSep (Transfers.pending k) Φ
      = iprop((bigSep Finset.univ fun j : Fin o => Φ ⟨k + j.val, by omega⟩) ∗ bigSep (Transfers.pending (k + o)) Φ) := by
  classical
  let em : Fin o ↪ Fin n := ⟨fun j => ⟨k + j.val, by omega⟩, fun a b e => Fin.ext (by simpa using congrArg Fin.val e)⟩
  have hu : Transfers.pending (n := n) k = Finset.univ.map em ∪ Transfers.pending (k + o) := by
    ext t
    simp only [Transfers.pending, Finset.mem_filter, Finset.mem_univ, true_and, Finset.mem_union, Finset.mem_map]
    constructor
    · intro ht
      by_cases h' : k + o ≤ t.val
      · exact .inr h'
      · exact .inl ⟨⟨t.val - k, by omega⟩, Fin.ext (show k + (t.val - k) = t.val by omega)⟩
    · rintro (⟨j, rfl⟩ | h')
      · exact Nat.le_add_right _ _
      · omega
  have hd : Disjoint (Finset.univ.map em) (Transfers.pending (n := n) (k + o)) := by
    refine Finset.disjoint_left.mpr fun t ht ht' => ?_
    obtain ⟨j, -, rfl⟩ := Finset.mem_map.mp ht
    have : k + o ≤ k + j.val := (Finset.mem_filter.mp ht').2
    have := j.isLt
    omega
  rw [hu, BI.bigSep_union hd, BI.bigSep_map]
  rfl

end Pending

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- Which index of the list entry `j` is: the list's words numbered row by row. -/
def entryAt {o : ℕ} (hn : si.numel = o) (j : Fin o) : si.Idx := si.rowMajor.symm (j.cast hn.symm)

omit [DecidableEq Ix] [DecidableEq Name] [URA U] [Preorder Lvl] in
theorem entryAt_bijective {o : ℕ} (hn : si.numel = o) : Function.Bijective (entryAt (si := si) hn) :=
  si.rowMajor.symm.bijective.comp (finCongr hn.symm).bijective

/-- What entry `j` of a gather of rows `r` brings back when it has landed: row `j` of the destination at row `r j` of
    the source, the list's entry `j`, and the `j`-th piece of the source's share. -/
def lane (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop((dst.view.loc c ↦[(dst.view.slice (s.rowRect hg.axis' j)).set]{fullShare}
          ((dst.view.slice (s.rowRect hg.axis' j)).write (Elt F) fd (fun i => src.view.read (Elt F) fs (hg.rowIdx (r j) i)) Finset.univ))
    ∗ (offs.view.loc c ↦[{offs.view.emb (entryAt hn j)}]{qo} fo) ∗ (src.view.loc c ↦[src.view.set]{pieceOf q _ ho j} fs))

instance lane_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) :
    Storable (upEmb : UEmb _ 𝕄) (lane c src dst hg offs hn ho q qo fs fd fo r j) := by
  unfold lane; infer_instance

/-- A gather's rows, all landed, are the destination written with the gathered rows, the source's share and the list's. -/
theorem lanes_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) :
    (bigSep Finset.univ (lane c src dst hg offs hn ho q qo fs fd fo r) : sProp 𝕄)
      ⊢ iprop((dst.view.loc c ↦[dst.view.set]{fullShare} (dst.view.write (Elt F) fd (gatherPayload hg (src.view.read (Elt F) fs) r) Finset.univ))
          ∗ (offs.view.loc c ↦[offs.view.set]{qo} fo) ∗ (src.view.loc c ↦[src.view.set]{q} fs)) := by
  let w : (j : Fin (s.size hg.axis')) → (s.rowShape hg.axis').Idx → Elt F e := fun j i => src.view.read (Elt F) fs (hg.rowIdx (r j) i)
  have hw : ∀ j i, w j i = gatherPayload hg (src.view.read (Elt F) fs) r ((s.rowRect hg.axis' j).emb i) := fun j i => by
    unfold gatherPayload; rw [Shape.Gathers.idx_rowRect_emb]
  have h1 : (bigSep Finset.univ fun j : Fin (s.size hg.axis') => (dst.view.loc c ↦[(dst.view.slice (s.rowRect hg.axis' j)).set]{fullShare}
          ((dst.view.slice (s.rowRect hg.axis' j)).write (Elt F) fd (fun i => src.view.read (Elt F) fs (hg.rowIdx (r j) i)) Finset.univ) : sProp 𝕄))
      ⊢ (dst.view.loc c ↦[dst.view.set]{fullShare} (dst.view.write (Elt F) fd (gatherPayload hg (src.view.read (Elt F) fs) r) Finset.univ)) :=
    pointsTo_rows_write c dst.view hg.axis' fd w _ hw
  unfold lane
  rw [BI.bigSep_sep', BI.bigSep_sep']
  iintro ⟨Hd, Ho, Hs⟩
  isplitl [Hd]
  · iapply h1 $$ Hd
  isplitl [Ho]
  · iapply (Entails.of_eq (pointsTo_entries c offs.view (entryAt hn) (entryAt_bijective hn) qo fo).symm) $$ Ho
  · iapply (Entails.of_eq (pointsTo_piecesOf (src.view.set) fs ho q).symm) $$ Hs

/-- The issue of one gather as the next transfers of a batch. Held: a share of the source, the destination, the list
    (every word of it a row of the source, `hin`), and the batch with `k` transfers issued; every row credits the
    batch's amount `N`, and the batch's deliveries from `k` on are the gather's lanes (`hD`). The tile goes on with the
    batch, the gather's entries issued. -/
theorem wp_gatherIntoBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {cont : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n k u : ℕ} {D : Fin n → sProp 𝕄} (ι : Ix) (N : ℕ)
    (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hk : k + s.size hg.axis' ≤ n) (hu : u ≤ k * N)
    (hD : ∀ j : Fin (s.size hg.axis'), lane c src dst hg offs hn ho q qo fs fd fo (rows (offs.view.read (Elt F) fo) hn hin) j ⊢ D ⟨k + j.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D k u)
      ⊢ iprop((Transfers.Batch EC c (.dma sem) ι N D (k + s.size hg.axis') u -∗ wp frame (wpE defs 𝒱 c bd) Set.univ (cont ⟨⟩) Q)
          -∗ wp frame (wpE defs 𝒱 c bd) Set.univ (enqueueIndirectGather hp src dst hg offs hn sem hsrc he hsp hr >>= cont) Q) := by
  rw [enqueueIndirectGather_bind]
  let r : Fin (s.size hg.axis') → Fin (s₀.size hg.axis) := rows (offs.view.read (Elt F) fo) hn hin
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun j => gatherRow c src dst hg sem hsrc he hsp hr j (r j)
  have hagree : S.RowsAgree := by
    intro j x x' ρ ρ' h h'
    obtain ⟨_, _, rfl⟩ := Option.map_eq_some_iff.mp h
    obtain ⟨_, _, rfl⟩ := Option.map_eq_some_iff.mp h'
    rfl
  have hrows : ∀ j, S.row j (S.word fo j) = some (rd j) := fun j => by
    change (rowOf (s₀.size hg.axis) (offs.view.read (Elt F) fo (entryAt hn j))).map _ = _
    rw [rowOf_of_lt (hin _)]; rfl
  unfold Transfers.Batch
  iintro ⟨Hs, Hd, Ho, ⟨%γ, %γ₀, %κ, #Hinv, HI, H0, Hcred⟩⟩ Hk
  ihave HI' := (Entails.of_eq (pending_next (fun t => count EC (γ t) 0) hk)) $$ HI
  icases HI' with ⟨Hmine, HI⟩
  ihave Hd' := (Entails.of_eq (pointsTo_rows c dst.view hg.axis' fullShare fd)) $$ Hd
  ihave Ho' := (Entails.of_eq (pointsTo_entries c offs.view (entryAt hn) (entryAt_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hagree hrows
    (sum_rowCredit_eq _ hN rfl)) $$ [Hd' Ho' Hs' Hmine]
  · have hone : ∀ j, iprop(inv κ (Transfers.batchBody EC (c, SemLoc.dma sem) N D γ γ₀)
          ∗ ((dst.view.loc c ↦[(dst.view.slice (s.rowRect hg.axis' j)).set]{fullShare} fd) ∗ S.heldEntry qo fo j
          ∗ (src.view.loc c ↦[src.view.set]{pieceOf q _ ho j} fs) ∗ count EC (γ ⟨k + j.val, by omega⟩) 0))
        ⊢ iprop(S.heldEntry qo fo j ∗ (S.heldEntry qo fo j -∗ rowRes c (rd j))) := fun j => by
      iintro ⟨#Hinv, Hr, He, Hsq, Hγ⟩
      isplitl [He]; · iexact He
      iintro He
      unfold rowRes
      iexists pieceOf q _ ho j, fs, iprop((dst.view.loc c ↦[(dst.view.slice (s.rowRect hg.axis' j)).set]{fullShare}
        ((dst.view.slice (s.rowRect hg.axis' j)).write (Elt F) fd (fun i => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hamt : (rd j).dst.view.amount (.dma sem) = N := hN j
        rw [hamt]
        iapply (Transfers.batch_creditUpdate EC (N := N) (D := D) (γ₀ := γ₀) ⟨k + j.val, by omega⟩ (sep_assoc.1.trans (hD j)))
        isplitr; · iexact Hinv
        iexact Hγ
    unfold Stream.res
    ihave H1 := Transfers.bigSep_sep_in _ _ _ $$ [Hs' Hmine]; · isplitl [Hs'] <;> iassumption
    ihave H2 := Transfers.bigSep_sep_in _ _ _ $$ [Ho' H1]; · isplitl [Ho'] <;> iassumption
    ihave H3 := Transfers.bigSep_sep_in _ _ _ $$ [Hd' H2]; · isplitl [Hd'] <;> iassumption
    iapply (Transfers.bigSep_mono_pers Finset.univ _ _ _ fun j _ => hone j)
    isplitr; · iexact Hinv
    iexact H3
  · iintro Hnew
    iapply Hk
    iexists γ, γ₀, κ
    isplitr; · iexact Hinv
    isplitl [HI]; · iexact HI
    isplitl [H0]; · iexact H0
    rw [show (k + s.size hg.axis') * N - u = (k * N - u) + s.size hg.axis' * N by rw [Nat.add_mul]; omega, ← tallyAt_add]
    icombine Hcred Hnew as H
    iexact H

end Cert.Proof.GatherBatch

end
-- ==== Proof.TileGather.lean ====
/-
  The four gathers of one tile: the blocks of its row buffer and the lines of its list of row numbers, which table row
  goes where, and the 512 row transfers as one batch.
-/
module

public import proofs.«01_k».proof.Proof.Setup
public import proofs.«01_k».proof.Proof.GatherBatch
public import Idealize.ShloMosaic.Lib.VecWindow
public import Idealize.ShloMosaic.Lib.ValueLayout
public import Idealize.ShloMosaic.Lib.WritesUnit
public import Idealize.ShloMosaic.Lib.Pipeline.ValueKit.Geometry

@[expose] public section

noncomputable section

namespace Cert.Proof.TileGather

open Cert.KernelIdeal Cert.KernelIdeal.Gen
open Cert.Proof.Values Cert.Proof.Setup Cert.Proof.GatherBatch

open Idealize.ShloMosaic Idealize.ShloMosaic.ValueIdx Idealize.ShloMosaic.ValueKit
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The blocks of the row buffer, the lines of the list -/

/-- Rows `o … o + 127` of the row buffer. -/
abbrev rB (o : ℕ) (h : ∀ a, (![o, 0] : Fin 2 → Nat) a + S128x128.size a ≤ S512x128.size a) : Memref sig .scVector .vmem S128x128 .f32 :=
  (rV).slice (Rect.unit (s := S512x128) ![o, 0] S128x128.size h) (fun _ => rfl)
/-- Line `o` of the list of row numbers. -/
abbrev nB (o : ℕ) (h : ∀ a, (![o, 0] : Fin 2 → Nat) a + S1x128.size a ≤ S4x128.size a) : Memref sig .scVector .vmem S128 .i32 :=
  ((nV).slice (Rect.unit (s := S4x128) ![o, 0] S1x128.size h) (fun _ => rfl)).squeeze S128 squeezes_S1x128_S128
/-- The whole table. -/
abbrev tAll : Memref sig .scVector .hbm S8192x128 .f32 :=
  (tV).slice (Rect.unit (s := S8192x128) ![0, 0] S8192x128.size inb_S8192x128_S8192x128_0_0) (fun _ => rfl)

theorem mem_rB {o : ℕ} {h} (x : S512x128.Idx) : x ∈ (rB o h).view.set ↔ o ≤ (x 0).val ∧ (x 0).val < o + 128 := by
  refine mem_set_slice_whole_iff (cc0_scratch1 : Ref sig .scVector) (Rect.unit (s := S512x128) ![o, 0] S128x128.size h) x ?_
  rw [Rect.mem_set_unit]
  constructor
  · intro hx; exact hx 0
  · intro hx a
    match a with
    | 0 => exact hx
    | 1 => exact ⟨Nat.zero_le _, by have := idx2_lt1 x; show (x 1).val < 0 + 128; omega⟩

theorem mem_nB {o : ℕ} {h} (x : S4x128.Idx) : x ∈ (nB o h).view.set ↔ (x 0).val = o := by
  rw [show (nB o h).view.set = ((View.whole (cc0_scratch0 : Ref sig .scVector)).slice (Rect.unit (s := S4x128) ![o, 0] S1x128.size h)).set
    from View.set_reshape _ _]
  refine mem_set_slice_whole_iff (cc0_scratch0 : Ref sig .scVector) (Rect.unit (s := S4x128) ![o, 0] S1x128.size h) x ?_
  rw [Rect.mem_set_unit]
  constructor
  · intro hx
    have h0 := hx 0
    have e : (![o, 0] : Fin 2 → Nat) 0 = o := rfl
    have e' : S1x128.size 0 = 1 := rfl
    rw [e, e'] at h0; omega
  · intro hx a
    match a with
    | 0 => show o ≤ (x 0).val ∧ (x 0).val < o + 1; omega
    | 1 => exact ⟨Nat.zero_le _, by have := idx2_lt1 x; show (x 1).val < 0 + 128; omega⟩

theorem tAll_set : (tAll).view.set = Finset.univ := by
  refine Finset.eq_univ_iff_forall.mpr fun (x : S8192x128.Idx) => ?_
  refine (mem_set_slice_whole_iff (main_v17_scv : Ref sig .scVector)
    (Rect.unit (s := S8192x128) ![0, 0] S8192x128.size inb_S8192x128_S8192x128_0_0) x Rect.mem_set_unit).mpr fun a => ?_
  match a with
  | 0 => exact ⟨Nat.zero_le _, by have := idx2_lt0 x; show (x 0).val < 0 + 8192; omega⟩
  | 1 => exact ⟨Nat.zero_le _, by have := idx2_lt1 x; show (x 1).val < 0 + 128; omega⟩

abbrev r0 := rB 0 inb_S512x128_S128x128_0_0
abbrev r1 := rB 128 inb_S512x128_S128x128_128_0
abbrev r2 := rB 256 inb_S512x128_S128x128_256_0
abbrev r3 := rB 384 inb_S512x128_S128x128_384_0
abbrev n0 := nB 0 inb_S4x128_S1x128_0_0
abbrev n1 := nB 1 inb_S4x128_S1x128_1_0
abbrev n2 := nB 2 inb_S4x128_S1x128_2_0
abbrev n3 := nB 3 inb_S4x128_S1x128_3_0

theorem bigSep_four (Φ : Fin 4 → sProp 𝕄) : (bigSep Finset.univ Φ) = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-- The row buffer is its four blocks. -/
theorem pts_blocks (d : Dev nD) (L : grid0.Coords) (f : Buf (Elt F) ((thr d L).loc cc0_scratch1)) :
    ((rV).view.loc (thr d L) ↦{fullShare} f : sProp 𝕄)
      = iprop(((r0).view.loc (thr d L) ↦[(r0).view.set]{fullShare} f) ∗ ((r1).view.loc (thr d L) ↦[(r1).view.set]{fullShare} f)
        ∗ ((r2).view.loc (thr d L) ↦[(r2).view.set]{fullShare} f) ∗ ((r3).view.loc (thr d L) ↦[(r3).view.set]{fullShare} f)) := by
  let B : Fin 4 → Finset S512x128.Idx := fun k => match k with
    | 0 => (r0).view.set | 1 => (r1).view.set | 2 => (r2).view.set | 3 => (r3).view.set
  have hm : ∀ (k : Fin 4) (x : S512x128.Idx), x ∈ B k ↔ (x 0).val / 128 = k.val := fun k x => by
    have := idx2_lt0 x
    match k with
    | 0 => exact (mem_rB x).trans (by show _ ↔ _ = 0; omega)
    | 1 => exact (mem_rB x).trans (by show _ ↔ _ = 1; omega)
    | 2 => exact (mem_rB x).trans (by show _ ↔ _ = 2; omega)
    | 3 => exact (mem_rB x).trans (by show _ ↔ _ = 3; omega)
  have hd : ∀ k ∈ (Finset.univ : Finset (Fin 4)), ∀ k' ∈ (Finset.univ : Finset (Fin 4)), k ≠ k' → Disjoint (B k) (B k') :=
    fun k _ k' _ hk => Finset.disjoint_left.mpr fun x hx hx' => hk (Fin.ext (((hm k x).mp hx).symm.trans ((hm k' x).mp hx')))
  have hc : (Finset.univ : Finset (Fin 4)).biUnion B = Finset.univ := Finset.eq_univ_iff_forall.mpr fun x =>
    Finset.mem_biUnion.mpr ⟨⟨(x 0).val / 128, by have := idx2_lt0 x; omega⟩, Finset.mem_univ _, (hm _ x).mpr rfl⟩
  have h := pointsTo_biUnion (ℓ := (rV).view.loc (thr d L)) (q := fullShare) (f := f) (Ix := HIx 1) (Name := ℕ) (U := UU) (Lvl := ℕ) Finset.univ B hd
  rw [hc, bigSep_four] at h
  exact h

/-- The list of row numbers is its four lines. -/
theorem pts_lines (d : Dev nD) (L : grid0.Coords) (f : Buf (Elt F) ((thr d L).loc cc0_scratch0)) :
    ((nV).view.loc (thr d L) ↦{fullShare} f : sProp 𝕄)
      = iprop(((n0).view.loc (thr d L) ↦[(n0).view.set]{fullShare} f) ∗ ((n1).view.loc (thr d L) ↦[(n1).view.set]{fullShare} f)
        ∗ ((n2).view.loc (thr d L) ↦[(n2).view.set]{fullShare} f) ∗ ((n3).view.loc (thr d L) ↦[(n3).view.set]{fullShare} f)) := by
  let B : Fin 4 → Finset S4x128.Idx := fun k => match k with
    | 0 => (n0).view.set | 1 => (n1).view.set | 2 => (n2).view.set | 3 => (n3).view.set
  have hm : ∀ (k : Fin 4) (x : S4x128.Idx), x ∈ B k ↔ (x 0).val = k.val := fun k x => by
    match k with
    | 0 => exact mem_nB x
    | 1 => exact mem_nB x
    | 2 => exact mem_nB x
    | 3 => exact mem_nB x
  have hd : ∀ k ∈ (Finset.univ : Finset (Fin 4)), ∀ k' ∈ (Finset.univ : Finset (Fin 4)), k ≠ k' → Disjoint (B k) (B k') :=
    fun k _ k' _ hk => Finset.disjoint_left.mpr fun x hx hx' => hk (Fin.ext (((hm k x).mp hx).symm.trans ((hm k' x).mp hx')))
  have hc : (Finset.univ : Finset (Fin 4)).biUnion B = Finset.univ := Finset.eq_univ_iff_forall.mpr fun x =>
    Finset.mem_biUnion.mpr ⟨⟨(x 0).val, idx2_lt0 x⟩, Finset.mem_univ _, (hm _ x).mpr rfl⟩
  have h := pointsTo_biUnion (ℓ := (nV).view.loc (thr d L)) (q := fullShare) (f := f) (Ix := HIx 1) (Name := ℕ) (U := UU) (Lvl := ℕ) Finset.univ B hd
  rw [hc, bigSep_four] at h
  exact h

/-- A share of the table is four pieces of it, each of the whole table as a gather names it. -/
theorem pts_table (d : Dev nD) (L : grid0.Coords) (q : PosShare TreeShare) (f : Buf (Elt F) ((thr d L).loc main_v17_scv)) :
    ((tV).view.loc (thr d L) ↦{q} f : sProp 𝕄)
      = iprop(((tAll).view.loc (thr d L) ↦[(tAll).view.set]{pieceOf q 4 (by omega) 0} f)
        ∗ ((tAll).view.loc (thr d L) ↦[(tAll).view.set]{pieceOf q 4 (by omega) 1} f)
        ∗ ((tAll).view.loc (thr d L) ↦[(tAll).view.set]{pieceOf q 4 (by omega) 2} f)
        ∗ ((tAll).view.loc (thr d L) ↦[(tAll).view.set]{pieceOf q 4 (by omega) 3} f)) := by
  rw [tAll_set]
  have h := pointsTo_piecesOf (ℓ := (tV).view.loc (thr d L)) (Ix := HIx 1) (Name := ℕ) (U := UU) (Lvl := ℕ) Finset.univ f
    (o := 4) (by omega) q
  rw [bigSep_four] at h
  exact h

/-! ## What a gather reads -/

theorem emb_rB {o : ℕ} {h} (a : Fin 128) (b : Fin 128) (ha : o + a.val < 512) :
    (rB o h).view.emb (ix2 a b) = (ix2 ⟨o + a.val, ha⟩ b : S512x128.Idx) := by
  funext (i : Fin 2)
  refine Fin.ext ?_
  match i with
  | 0 => exact rect_emb_unit_val _ _ _ _ _
  | 1 => exact (rect_emb_unit_val _ _ _ _ _).trans (Nat.zero_add _)

theorem read_nB {o : ℕ} {h} (ho : o < 4) (f : S4x128.Idx → Elt F .i32) (a : Fin 128) :
    (nB o h).view.read (Elt F) f (ix1 a) = f (ix2 ⟨o, ho⟩ a) := by
  refine ((View.read_apply _ _).trans (cast_eq _ _)).trans (congrArg f ?_)
  show (Rect.unit (s := S4x128) ![o, 0] S1x128.size h).emb (Shape.reshapeEquiv _ (ix1 a)) = _
  rw [show Shape.reshapeEquiv squeezes_S1x128_S128.numel_eq (ix1 a) = (ix2 0 a : S1x128.Idx) from
    Shape.reshapeEquiv_eq_of_rowMajor _ (by rw [Shape.rowMajor_val_two, Shape.rowMajor_val_one]; show 0 * 128 + a.val = a.val; omega)]
  funext (i : Fin 2)
  refine Fin.ext ?_
  match i with
  | 0 => exact (rect_emb_unit_val _ _ _ _ _).trans (Nat.add_zero _)
  | 1 => exact (rect_emb_unit_val _ _ _ _ _).trans (Nat.zero_add _)

theorem read_tAll (f : S8192x128.Idx → Elt F .f32) (x : S8192x128.Idx) : (tAll).view.read (Elt F) f x = f x := by
  refine ((View.read_apply _ _).trans (cast_eq _ _)).trans (congrArg f ?_)
  show (Rect.unit (s := S8192x128) ![0, 0] S8192x128.size _).emb x = x
  funext (i : Fin 2)
  refine Fin.ext ?_
  match i with
  | 0 => exact (rect_emb_unit_val _ _ _ _ _).trans (Nat.zero_add _)
  | 1 => exact (rect_emb_unit_val _ _ _ _ _).trans (Nat.zero_add _)

theorem lines_lt {o : ℕ} {h} (ho : o < 4) (f : S4x128.Idx → Elt F .i32) (hf : ∀ x, (f x).toNat < 8192) (x : S128.Idx) :
    ((nB o h).view.read (Elt F) f x).toNat < S8192x128.size gathers_S8192x128_S128x128.axis := by
  obtain ⟨a, rfl⟩ : ∃ a : Fin 128, x = ix1 a := ⟨x 0, eq_ix1 x⟩
  rw [read_nB ho]; exact hf _

/-- The table rows line `o` of the list names. -/
abbrev lineRows (o : ℕ) (h : ∀ a, (![o, 0] : Fin 2 → ℕ) a + S1x128.size a ≤ S4x128.size a) (ho : o < 4) (f : S4x128.Idx → Elt F .i32) (hf : ∀ x, (f x).toNat < 8192) :
    Fin (S128x128.size gathers_S8192x128_S128x128.axis') → Fin (S8192x128.size gathers_S8192x128_S128x128.axis) :=
  SparseCore.rows ((nB o h).view.read (Elt F) f) rfl (lines_lt ho f hf)

/-- A block a gather has written holds the rows its line names. -/
theorem block_gathered (d : Dev nD) (L : grid0.Coords) (k : Fin 4) (o : ℕ) (ho : o = 128 * k.val) {h h'} (T : Table F)
    (N : S4x128.Idx → Elt F .i32) (hN : ∀ x, (N x).toNat < 8192) (fr : Buf (Elt F) ((thr d L).loc cc0_scratch1)) :
    ((rB o h).view.loc (thr d L) ↦[(rB o h).view.set]{fullShare}
        ((rB o h).view.write (Elt F) fr (SparseCore.gatherPayload gathers_S8192x128_S128x128 ((tAll).view.read (Elt F) T)
          (lineRows k.val h' k.isLt N hN)) Finset.univ) : sProp 𝕄)
      = (rB o h).view.loc (thr d L) ↦[(rB o h).view.set]{fullShare} (gathered T N : Buf (Elt F) ((thr d L).loc cc0_scratch1)) := by
  refine pointsTo_congr fun i hi => ?_
  obtain ⟨y, -, rfl⟩ := Finset.mem_map.mp hi
  rw [View.write_emb_of_mem _ _ (Finset.mem_univ _)]
  refine (cast_eq _ _).trans ?_
  obtain ⟨a, b, rfl⟩ : ∃ (a b : Fin 128), y = ix2 a b := ⟨y 0, y 1, eq_ix2 y⟩
  have ha : o + a.val < 512 := by have := k.isLt; have := a.isLt; omega
  rw [emb_rB a b ha]
  unfold SparseCore.gatherPayload gathered
  rw [read_tAll]
  refine congrArg T ?_
  funext (i : Fin 2)
  refine Fin.ext ?_
  match i with
  | 0 =>
    show (lineRows k.val h' k.isLt N hN a).val = (Fin.ofNat 8192 _).val
    have e : (lineRows k.val h' k.isLt N hN a).val = (N (ix2 k a)).toNat := by
      have he : S128.rowMajor.symm (Fin.cast rfl a) = ix1 a :=
        (Equiv.symm_apply_eq _).mpr (Fin.ext (Shape.rowMajor_val_one (ix1 a)).symm)
      exact (congrArg (fun y => ((nB k.val h').view.read (Elt F) N y).toNat) he).trans (congrArg BitVec.toNat (read_nB k.isLt N a))
    rw [e]
    show _ = _ % 8192
    have hk : (⟨(o + a.val) / 128, by omega⟩ : Fin 4) = k := Fin.ext (by show (o + a.val) / 128 = k.val; have := a.isLt; omega)
    have hb : (⟨(o + a.val) % 128, by omega⟩ : Fin 128) = a := Fin.ext (by show (o + a.val) % 128 = a.val; have := a.isLt; omega)
    show _ = (N (ix2 ⟨(o + a.val) / 128, _⟩ ⟨(o + a.val) % 128, _⟩)).toNat % 8192
    rw [hk, hb, Nat.mod_eq_of_lt (hN _)]
  | 1 => rfl

/-! ## The 512 row transfers -/

theorem rB_inb (k : Fin 4) (a : Fin 2) : (![128 * k.val, 0] : Fin 2 → ℕ) a + S128x128.size a ≤ S512x128.size a := by
  have := k.isLt
  match a with
  | 0 => show 128 * k.val + 128 ≤ 512; omega
  | 1 => show 0 + 128 ≤ 128; omega

theorem nB_inb (k : Fin 4) (a : Fin 2) : (![k.val, 0] : Fin 2 → ℕ) a + S1x128.size a ≤ S4x128.size a := by
  have := k.isLt
  match a with
  | 0 => show k.val + 1 ≤ 4; omega
  | 1 => show 0 + 128 ≤ 128; omega

/-- What entry `j` of gather `k` brings back. -/
def laneAt (d : Dev nD) (L : grid0.Coords) (q : PosShare TreeShare) (T : Table F) (N : S4x128.Idx → Elt F .i32)
    (hN : ∀ x, (N x).toNat < 8192) (fr : Buf (Elt F) ((thr d L).loc cc0_scratch1)) (k : Fin 4) (j : Fin 128) : sProp 𝕄 :=
  lane (thr d L) tAll (rB (128 * k.val) (rB_inb k)) gathers_S8192x128_S128x128 (nB k.val (nB_inb k)) rfl (by decide)
    (pieceOf q 4 (by omega) k) fullShare T fr N (lineRows k.val (nB_inb k) k.isLt N hN) j

instance laneAt_storable (d : Dev nD) (L : grid0.Coords) (q : PosShare TreeShare) (T : Table F) (N : S4x128.Idx → Elt F .i32)
    (hN : ∀ x, (N x).toNat < 8192) (fr : Buf (Elt F) ((thr d L).loc cc0_scratch1)) (k : Fin 4) (j : Fin 128) :
    Storable (upEmb : UEmb _ 𝕄) (laneAt d L q T N hN fr k j) := by
  unfold laneAt; exact lane_storable _ _ _ _ _ _ _ _ _ _ _ _ _ _

/-- The 512 transfers in the order they are issued. -/
def delivery (d : Dev nD) (L : grid0.Coords) (q : PosShare TreeShare) (T : Table F) (N : S4x128.Idx → Elt F .i32)
    (hN : ∀ x, (N x).toNat < 8192) (fr : Buf (Elt F) ((thr d L).loc cc0_scratch1)) (t : Fin 512) : sProp 𝕄 :=
  laneAt d L q T N hN fr ⟨t.val / 128, by omega⟩ ⟨t.val % 128, by omega⟩

instance delivery_storable (d : Dev nD) (L : grid0.Coords) (q : PosShare TreeShare) (T : Table F) (N : S4x128.Idx → Elt F .i32)
    (hN : ∀ x, (N x).toNat < 8192) (fr : Buf (Elt F) ((thr d L).loc cc0_scratch1)) (t : Fin 512) :
    Storable (upEmb : UEmb _ 𝕄) (delivery d L q T N hN fr t) := by
  unfold delivery; infer_instance

theorem delivery_at (d : Dev nD) (L : grid0.Coords) (q : PosShare TreeShare) (T : Table F) (N : S4x128.Idx → Elt F .i32)
    (hN : ∀ x, (N x).toNat < 8192) (fr : Buf (Elt F) ((thr d L).loc cc0_scratch1)) (k : Fin 4) (j : Fin 128) (t : Fin 512)
    (ht : t.val = 128 * k.val + j.val) : delivery d L q T N hN fr t = laneAt d L q T N hN fr k j := by
  unfold delivery
  have hj := j.isLt
  congr 1
  · exact Fin.ext (show t.val / 128 = k.val by omega)
  · exact Fin.ext (show t.val % 128 = j.val by omega)

/-- One gather's rows, all landed: its block at the rows its line names, the line, and its piece of the table's share. -/
theorem lanes_block (d : Dev nD) (L : grid0.Coords) (q : PosShare TreeShare) (T : Table F) (N : S4x128.Idx → Elt F .i32)
    (hN : ∀ x, (N x).toNat < 8192) (fr : Buf (Elt F) ((thr d L).loc cc0_scratch1)) (k : Fin 4) :
    (bigSep Finset.univ (laneAt d L q T N hN fr k) : sProp 𝕄)
      ⊢ iprop(((rB (128 * k.val) (rB_inb k)).view.loc (thr d L) ↦[(rB (128 * k.val) (rB_inb k)).view.set]{fullShare}
            (gathered T N : Buf (Elt F) ((thr d L).loc cc0_scratch1)))
          ∗ ((nB k.val (nB_inb k)).view.loc (thr d L) ↦[(nB k.val (nB_inb k)).view.set]{fullShare} N)
          ∗ ((tAll).view.loc (thr d L) ↦[(tAll).view.set]{pieceOf q 4 (by omega) k} T)) := by
  have h := lanes_join (U := UU) (Name := ℕ) (Lvl := ℕ) (Ix := HIx 1) (thr d L) tAll (rB (128 * k.val) (rB_inb k)) gathers_S8192x128_S128x128
    (nB k.val (nB_inb k)) rfl (by decide) (pieceOf q 4 (by omega) k) fullShare T fr N (lineRows k.val (nB_inb k) k.isLt N hN)
  rw [block_gathered d L k (128 * k.val) rfl T N hN fr] at h
  exact h

/-- All 512 rows landed: the row buffer at the rows the list names, the list, and the table's share. -/
theorem deliveries_join (d : Dev nD) (L : grid0.Coords) (q : PosShare TreeShare) (T : Table F) (N : S4x128.Idx → Elt F .i32)
    (hN : ∀ x, (N x).toNat < 8192) (fr : Buf (Elt F) ((thr d L).loc cc0_scratch1)) :
    (bigSep Finset.univ (delivery d L q T N hN fr) : sProp 𝕄)
      ⊢ iprop(((rV).view.loc (thr d L) ↦{fullShare} (gathered T N : Buf (Elt F) ((thr d L).loc cc0_scratch1)))
          ∗ ((nV).view.loc (thr d L) ↦{fullShare} N) ∗ ((tV).view.loc (thr d L) ↦{q} T)) := by
  rw [show (bigSep Finset.univ (delivery d L q T N hN fr) : sProp 𝕄)
      = bigSep Finset.univ fun x : Fin 4 × Fin 128 => delivery d L q T N hN fr (finProdFinEquiv x) from
    (BI.bigSep_univ_equiv (finProdFinEquiv (m := 4) (n := 128)) _).symm, BI.bigSep_univ_prod]
  have e : ∀ (k : Fin 4) (j : Fin 128), delivery d L q T N hN fr (finProdFinEquiv (k, j)) = laneAt d L q T N hN fr k j :=
    fun k j => delivery_at d L q T N hN fr k j _ (by show j.val + 128 * k.val = _; omega)
  simp only [e]
  rw [bigSep_four, pts_blocks, pts_lines, pts_table]
  iintro ⟨H0, H1, H2, H3⟩
  ihave H0 := (lanes_block d L q T N hN fr 0) $$ H0; icases H0 with ⟨Hr0, Hn0, Ht0⟩
  ihave H1 := (lanes_block d L q T N hN fr 1) $$ H1; icases H1 with ⟨Hr1, Hn1, Ht1⟩
  ihave H2 := (lanes_block d L q T N hN fr 2) $$ H2; icases H2 with ⟨Hr2, Hn2, Ht2⟩
  ihave H3 := (lanes_block d L q T N hN fr 3) $$ H3; icases H3 with ⟨Hr3, Hn3, Ht3⟩
  isplitl [Hr0 Hr1 Hr2 Hr3]
  · isplitl [Hr0]; · iexact Hr0
    isplitl [Hr1]; · iexact Hr1
    isplitl [Hr2]; · iexact Hr2
    iexact Hr3
  isplitl [Hn0 Hn1 Hn2 Hn3]
  · isplitl [Hn0]; · iexact Hn0
    isplitl [Hn1]; · iexact Hn1
    isplitl [Hn2]; · iexact Hn2
    iexact Hn3
  · isplitl [Ht0]; · iexact Ht0
    isplitl [Ht1]; · iexact Ht1
    isplitl [Ht2]; · iexact Ht2
    iexact Ht3

end Cert.Proof.TileGather

end
-- ==== Proof.TileLoop.lean ====
/-
  One trip of a tile's loop over its 512 rows: the row's two halves are shifted in place, and the sixteen partial sums
  take in the row's squares.
-/
module

public import proofs.«01_k».proof.Proof.TileGather

@[expose] public section

noncomputable section

namespace Cert.Proof.TileLoop

open Cert.KernelIdeal Cert.KernelIdeal.Gen
open Cert.Proof.Values Cert.Proof.Setup

open Idealize.ShloMosaic Idealize.ShloMosaic.ValueIdx Idealize.ShloMosaic.ValueKit
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## What the trip loads -/

omit [FloatOps F] in
/-- A load of sixteen lanes of the row buffer. -/
theorem load_rows {off : Fin 2 → ℕ} (r : Fin 512) (o : ℕ) (ho : o + 16 ≤ 128) (he : off = ![r.val, o])
    (inb : ∀ a, off a + S1x16.size a ≤ S512x128.size a) (f : S512x128.Idx → F .f32) :
    (rV).view.readAt (Elt F) (Rect.unit (s := S512x128) off S1x16.size inb).toLoadRect f = gLane f r o ho := by
  subst he
  funext i
  show f ((Rect.unit (s := S512x128) ![r.val, o] S1x16.size inb).emb i) = f _
  refine congrArg f ?_
  funext (a : Fin 2)
  refine Fin.ext ((rect_emb_unit_val _ _ _ _ _).trans ?_)
  match a with
  | 0 => have := idx2_lt0 i; show r.val + (i 0).val = r.val; omega
  | 1 => rfl

omit [FloatOps F] in
/-- A load of sixteen lanes of the input rows. -/
theorem load_input {off : Fin 2 → ℕ} (r : Fin 512) (o : ℕ) (ho : o + 16 ≤ 32) (he : off = ![r.val, o])
    (inb : ∀ a, off a + S1x16.size a ≤ S512x32.size a) (f : S512x32.Idx → F .f32) :
    (xV).view.readAt (Elt F) (Rect.unit (s := S512x32) off S1x16.size inb).toLoadRect f = zLane f r o ho := by
  subst he
  funext i
  show f ((Rect.unit (s := S512x32) ![r.val, o] S1x16.size inb).emb i) = f _
  refine congrArg f ?_
  funext (a : Fin 2)
  refine Fin.ext ((rect_emb_unit_val _ _ _ _ _).trans ?_)
  match a with
  | 0 => have := idx2_lt0 i; show r.val + (i 0).val = r.val; omega
  | 1 => rfl

theorem rowsAt_done (G : S512x128.Idx → F .f32) (Z : S512x32.Idx → F .f32) (k : ℕ) (a : Fin 512) (b : Fin 128) (ha : a.val < k)
    (hb : b.val < 32) : rowsAt G Z k (ix2 a b) = shift (Z (ix2 a ⟨b.val, hb⟩)) (G (ix2 a b)) :=
  dif_pos (⟨ha, hb⟩ : a.val < k ∧ b.val < 32)

theorem rowsAt_rest (G : S512x128.Idx → F .f32) (Z : S512x32.Idx → F .f32) (k : ℕ) (a : Fin 512) (b : Fin 128)
    (h : ¬ (a.val < k ∧ b.val < 32)) : rowsAt G Z k (ix2 a b) = G (ix2 a b) := dif_neg h

/-- Row `k` is as gathered until trip `k`. -/
theorem gLane_rowsAt (G : S512x128.Idx → F .f32) (Z : S512x32.Idx → F .f32) (r : Fin 512) (o : ℕ) (ho : o + 16 ≤ 128) :
    gLane (rowsAt G Z r.val) r o ho = gLane G r o ho := by
  funext i
  unfold gLane rowsAt
  exact dif_neg fun h => absurd h.1 (Nat.lt_irrefl _)

/-! ## What the trip stores -/

/-- Sixteen lanes stored: each is `z + (q − z)`. -/
theorem pay3_apply (q z : Vec F S1x16 .f32) (b : Fin 16) : k0_pay3 q z (ix2 0 b) = shift (z (ix2 0 b)) (q (ix2 0 b)) := by
  show shapeCast S1x16 (addf (shapeCast S16 z shapeCasts_S1x16_S16)
    (subf (shapeCast S16 q shapeCasts_S1x16_S16) (shapeCast S16 z shapeCasts_S1x16_S16))) shapeCasts_S16_S1x16 (ix2 0 b) = _
  refine (shapeCast_a_1a_apply _ _ 0 b).trans ?_
  show FloatOps.addf (shapeCast S16 z shapeCasts_S1x16_S16 (ix1 b))
    (FloatOps.subf (shapeCast S16 q shapeCasts_S1x16_S16 (ix1 b)) (shapeCast S16 z shapeCasts_S1x16_S16 (ix1 b))) = _
  rw [show shapeCast S16 z shapeCasts_S1x16_S16 (ix1 b) = z (ix2 0 b) from shapeCast_1a_a_apply _ _ b,
    show shapeCast S16 q shapeCasts_S1x16_S16 (ix1 b) = q (ix2 0 b) from shapeCast_1a_a_apply _ _ b]
  rfl

theorem pay6_apply (q z : Vec F S1x16 .f32) (b : Fin 16) : k0_pay6 q z (ix2 0 b) = shift (z (ix2 0 b)) (q (ix2 0 b)) :=
  pay3_apply q z b

/-- The two stores of a trip take the rows from below `r` shifted to below `r + 1` shifted. -/
theorem writes_row (G : S512x128.Idx → F .f32) (Z : S512x32.Idx → F .f32) (r : Fin 512) {off off' : Fin 2 → ℕ}
    (he : off = ![r.val, 0]) (he' : off' = ![r.val, 16]) {inb : ∀ a, off a + S1x16.size a ≤ S512x128.size a}
    {inb' : ∀ a, off' a + S1x16.size a ≤ S512x128.size a} :
    (rV).view.writes (Elt F) (rowsAt G Z r.val)
        [⟨Rect.unit (s := S512x128) off' S1x16.size inb', k0_pay6 (gLane G r 16 (by omega)) (zLane Z r 16 (by omega))⟩,
          ⟨Rect.unit (s := S512x128) off S1x16.size inb, k0_pay3 (gLane G r 0 (by omega)) (zLane Z r 0 (by omega))⟩]
      = rowsAt G Z (r.val + 1) := by
  subst he; subst he'
  refine (View.read_whole (Val := Elt F) (cc0_scratch1 : Ref sig .scVector) _).symm.trans ?_
  funext y
  obtain ⟨a, b, rfl⟩ : ∃ (a : Fin 512) (b : Fin 128), y = ix2 a b := ⟨y 0, y 1, eq_ix2 y⟩
  by_cases ha : a = r
  swap
  · have hne : a.val ≠ r.val := fun h => ha (Fin.ext h)
    refine (View.read_writes_cons_miss_of_axis (rV).view _ _ _ _ 0 r.val 1 rfl rfl rfl (by show a.val < _ ∨ _ ≤ a.val; omega)).trans ?_
    refine (View.read_writes_cons_miss_of_axis (rV).view _ _ _ _ 0 r.val 1 rfl rfl rfl (by show a.val < _ ∨ _ ≤ a.val; omega)).trans ?_
    show rowsAt G Z r.val (ix2 a b) = rowsAt G Z (r.val + 1) (ix2 a b)
    by_cases h : a.val < r.val ∧ b.val < 32
    · rw [rowsAt_done G Z _ a b h.1 h.2, rowsAt_done G Z _ a b (by omega) h.2]
    · rw [rowsAt_rest G Z _ a b h, rowsAt_rest G Z _ a b (by omega)]
  subst ha
  by_cases hb : b.val < 32
  swap
  · refine (View.read_writes_cons_miss_of_axis (rV).view _ _ _ _ 1 16 16 rfl rfl rfl (by show b.val < _ ∨ _ ≤ b.val; omega)).trans ?_
    refine (View.read_writes_cons_miss_of_axis (rV).view _ _ _ _ 1 0 16 rfl rfl rfl (by show b.val < _ ∨ _ ≤ b.val; omega)).trans ?_
    show rowsAt G Z a.val (ix2 a b) = rowsAt G Z (a.val + 1) (ix2 a b)
    rw [rowsAt_rest G Z _ a b (by omega), rowsAt_rest G Z _ a b (by omega)]
  rw [rowsAt_done G Z _ a b (Nat.lt_succ_self _) hb]
  by_cases h16 : b.val < 16
  · refine (View.read_writes_cons_miss_of_axis (rV).view _ _ _ _ 1 16 16 rfl rfl rfl (by show b.val < _ ∨ _ ≤ b.val; omega)).trans ?_
    refine (View.read_writes_cons_hit_of_coords (rV).view _ _ _ _ (ix2 0 ⟨b.val, h16⟩ : S1x16.Idx) _ ?_).trans ?_
    · intro (c : Fin 2)
      match c with
      | 0 => show a.val = a.val + 1 * 0; omega
      | 1 => show b.val = 0 + 1 * b.val; omega
    · refine (pay3_apply _ _ _).trans ?_
      unfold gLane zLane
      congr 2
      · exact congrArg (ix2 a) (Fin.ext (Nat.zero_add _))
      · exact congrArg (ix2 a) (Fin.ext (Nat.zero_add _))
  · refine (View.read_writes_cons_hit_of_coords (rV).view _ _ _ _ (ix2 0 ⟨b.val - 16, by omega⟩ : S1x16.Idx) _ ?_).trans ?_
    · intro (c : Fin 2)
      match c with
      | 0 => show a.val = a.val + 1 * 0; omega
      | 1 => show b.val = 16 + 1 * (b.val - 16); omega
    · refine (pay6_apply _ _ _).trans ?_
      unfold gLane zLane
      congr 2
      · exact congrArg (ix2 a) (Fin.ext (by show 16 + (b.val - 16) = b.val; omega))
      · exact congrArg (ix2 a) (Fin.ext (by show 16 + (b.val - 16) = b.val; omega))

set_option maxHeartbeats 4000000 in
/-- Trip `k`: from the rows below `k` shifted and their squares summed, to the rows below `k + 1`. -/
theorem trip (d : Dev nD) (L : grid0.Coords) (G : S512x128.Idx → F .f32) (Z : S512x32.Idx → F .f32) (k : Fin k0_t1_loop.trips) :
    iprop(((rV).view.loc (thr d L) ↦{fullShare} (rowsAt G Z k.val : Buf (Elt F) ((thr d L).loc cc0_scratch1)))
        ∗ ((xV).view.loc (thr d L) ↦{fullShare} (Z : Buf (Elt F) ((thr d L).loc cc0_scratch2))) : sProp 𝕄)
      ⊢ wp frame (wpE (defs₀ (F := F)) 𝒱₀ (thr d L) none) Set.univ
          (k0_t1_body L tV (Memref.isWhole_whole _) iV (Memref.isWhole_whole _) zV (Memref.isWhole_whole _) oV (Memref.isWhole_whole _)
            pV (Memref.isWhole_whole _) nV (Memref.isWhole_whole _) rV (Memref.isWhole_whole _) xV (Memref.isWhole_whole _)
            aV (Memref.isWhole_whole _) cc0_scratch4 cc0_scoped0 cc0_scoped1 cc0_scoped2 cc0_scoped3 k (accAt G Z k.val))
          fun a => iprop(⌜a = accAt G Z (k.val + 1)⌝
            ∗ ((rV).view.loc (thr d L) ↦{fullShare} (rowsAt G Z (k.val + 1) : Buf (Elt F) ((thr d L).loc cc0_scratch1)))
            ∗ ((xV).view.loc (thr d L) ↦{fullShare} (Z : Buf (Elt F) ((thr d L).loc cc0_scratch2)))) := by
  unfold k0_t1_body
  iintro ⟨Hr, Hx⟩
  sl_exec
  sl_step
  have hk : k.val < 512 := lt_of_lt_of_le k.isLt k0_t1_abs.2.1
  have h43 := (load_rows (off := k0_off3 k) ⟨k.val, hk⟩ 0 (by omega) (k0_off3_eq k) (k0_off3_inb k) (rowsAt G Z k.val)).trans
    (gLane_rowsAt G Z ⟨k.val, hk⟩ 0 (by omega))
  have h59 := (load_rows (off := k0_off5 k) ⟨k.val, hk⟩ 16 (by omega) (k0_off5_eq k) (k0_off5_inb k) (rowsAt G Z k.val)).trans
    (gLane_rowsAt G Z ⟨k.val, hk⟩ 16 (by omega))
  have h46 := load_input (off := k0_off4 k) ⟨k.val, hk⟩ 0 (by omega) (k0_off4_eq k) (k0_off4_inb k) Z
  have h62 := load_input (off := k0_off6 k) ⟨k.val, hk⟩ 16 (by omega) (k0_off6_eq k) (k0_off6_inb k) Z
  have h59' : trip.sl.v59 G Z k = gLane G ⟨k.val, hk⟩ 16 (by omega) := h59
  have hw := writes_row G Z ⟨k.val, hk⟩ (k0_off3_eq k) (k0_off5_eq k) (inb := k0_off3_inb k) (inb' := k0_off5_inb k)
  rw [h43, h46, h59', h62, hw]
  isplitr
  · ipureintro
    show _ = accAt G Z (k.val + 1)
    rw [accAt, dif_pos hk]; rfl
  isplitl [Hr]; · iexact Hr
  iexact Hx

end Cert.Proof.TileLoop

end
-- ==== Proof.Tile.lean ====
/-
  The task of one tile: the fetch of its row numbers, the four gathers in flight together, the fetch of its input rows
  while they run, the four waits, the loop over its 512 rows, and the write-out of its rows and of its partial sums.
-/
module

public import proofs.«01_k».proof.Proof.TileLoop
public import Idealize.ShloMosaic.Lib.Pipeline.Value

@[expose] public section

noncomputable section

namespace Cert.Proof.Tile

open Cert.KernelIdeal Cert.KernelIdeal.Gen
open Cert.Proof.Values Cert.Proof.Setup Cert.Proof.GatherBatch Cert.Proof.TileGather Cert.Proof.TileLoop

open Idealize.ShloMosaic Idealize.ShloMosaic.ValueIdx Idealize.ShloMosaic.ValueKit
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## A tile's own semaphores and buffers -/

abbrev gCell (d : Dev nD) (L : grid0.Coords) : GSem nD τ sig := (thr d L, .dma cc0_scratch4.sem)
abbrev aCell (d : Dev nD) (L : grid0.Coords) : GSem nD τ sig := (thr d L, .dma cc0_scoped0.sem)
abbrev bCell (d : Dev nD) (L : grid0.Coords) : GSem nD τ sig := (thr d L, .dma cc0_scoped1.sem)
abbrev cCell (d : Dev nD) (L : grid0.Coords) : GSem nD τ sig := (thr d L, .dma cc0_scoped2.sem)
abbrev dCell (d : Dev nD) (L : grid0.Coords) : GSem nD τ sig := (thr d L, .dma cc0_scoped3.sem)

/-- The copies' semaphores are among the tile's own: they are them, at zero, and the rest. -/
theorem ownSems0_tile (d : Dev nD) (L : grid0.Coords) :
    (ownSems0 (thr d L) : sProp 𝕄)
      = iprop(semVal (gCell d L) 0 ∗ semVal (aCell d L) 0 ∗ semVal (bCell d L) 0 ∗ semVal (cCell d L) 0 ∗ semVal (dCell d L) 0
          ∗ bigSep ((((((ownCells (thr d L)).erase (gCell d L)).erase (aCell d L)).erase (bCell d L)).erase (cCell d L)).erase (dCell d L))
              fun g => semVal g 0) := by
  have hm : ∀ s : DmaSem sig, (SemLoc.dma s : SemLoc sig).isScoped .scVector = true → ((thr d L, .dma s) : GSem nD τ sig) ∈ ownCells (thr d L) :=
    fun s hs => (mem_ownCells (g := ((thr d L, .dma s) : GSem nD τ sig))).mpr ⟨rfl, hs⟩
  have hne : ∀ s s' : DmaSem sig, s ≠ s' → ((thr d L, .dma s) : GSem nD τ sig) ≠ (thr d L, .dma s') := fun s s' h e =>
    h (SemLoc.dma.inj (congrArg Prod.snd e))
  unfold SparseCore.Cfg.ownSems0
  rw [SparseCore.bigSep_erase' (hm cc0_scratch4.sem (by decide)),
    SparseCore.bigSep_erase' (Finset.mem_erase.mpr ⟨hne cc0_scoped0.sem cc0_scratch4.sem (by decide), hm _ (by decide)⟩),
    SparseCore.bigSep_erase' (Finset.mem_erase.mpr ⟨hne cc0_scoped1.sem cc0_scoped0.sem (by decide),
      Finset.mem_erase.mpr ⟨hne cc0_scoped1.sem cc0_scratch4.sem (by decide), hm _ (by decide)⟩⟩),
    SparseCore.bigSep_erase' (Finset.mem_erase.mpr ⟨hne cc0_scoped2.sem cc0_scoped1.sem (by decide),
      Finset.mem_erase.mpr ⟨hne cc0_scoped2.sem cc0_scoped0.sem (by decide),
        Finset.mem_erase.mpr ⟨hne cc0_scoped2.sem cc0_scratch4.sem (by decide), hm _ (by decide)⟩⟩⟩),
    SparseCore.bigSep_erase' (Finset.mem_erase.mpr ⟨hne cc0_scoped3.sem cc0_scoped2.sem (by decide),
      Finset.mem_erase.mpr ⟨hne cc0_scoped3.sem cc0_scoped1.sem (by decide),
        Finset.mem_erase.mpr ⟨hne cc0_scoped3.sem cc0_scoped0.sem (by decide),
          Finset.mem_erase.mpr ⟨hne cc0_scoped3.sem cc0_scratch4.sem (by decide), hm _ (by decide)⟩⟩⟩⟩)]

abbrev own (L : grid0.Coords) (b : Ref sig .scVector) : DevRef τ sig := (Proc.scVector (cV L) (jV L)).devRef b

/-- The four scratch buffers are among the tile's own: they are them, at some contents, and the rest. -/
theorem ownBufs_tile (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (own L cc0_scratch0)).erase (own L cc0_scratch1)).erase
              (own L cc0_scratch2)).erase (own L cc0_scratch3)) fun b => iprop(∃ f, ((d, b) : Loc nD τ sig) ↦{fullShare} f)) := by
  have hm : ∀ b : Ref sig .scVector, (own L b).owner = .proc (.scVector (cV L) (jV L)) → own L b ∈ ownRefs (τ := τ) (.scVector (cV L) (jV L)) :=
    fun b hb => SparseCore.Cfg.mem_ownRefs_of_owner (p := Proc.scVector (cV L) (jV L)) (b := own L b) hb
  have hne : ∀ b b' : Ref sig .scVector, b ≠ b' → own L b ≠ own L b' := fun b b' h e => h (Proc.devRef_injective _ e)
  unfold SparseCore.Cfg.ownBufs
  refine (SparseCore.bigSep_erase' (hm cc0_scratch0 rfl)).trans ?_
  rw [SparseCore.bigSep_erase' (Finset.mem_erase.mpr ⟨hne cc0_scratch1 cc0_scratch0 (by decide), hm _ rfl⟩),
    SparseCore.bigSep_erase' (Finset.mem_erase.mpr ⟨hne cc0_scratch2 cc0_scratch1 (by decide),
      Finset.mem_erase.mpr ⟨hne cc0_scratch2 cc0_scratch0 (by decide), hm _ rfl⟩⟩),
    SparseCore.bigSep_erase' (Finset.mem_erase.mpr ⟨hne cc0_scratch3 cc0_scratch2 (by decide),
      Finset.mem_erase.mpr ⟨hne cc0_scratch3 cc0_scratch1 (by decide),
        Finset.mem_erase.mpr ⟨hne cc0_scratch3 cc0_scratch0 (by decide), hm _ rfl⟩⟩⟩)]

/-! ## What the fetches bring -/

theorem fetched_nums (L : grid0.Coords) (I : Nums) :
    ((iV).slice (Rect.unit (s := S128x128) (k0_off1 L) S4x128.size (k0_off1_inb L)) (fun _ => rfl)).view.read (Elt F) I = numsOf I (wid L) := by
  funext x
  refine ((View.read_apply _ _).trans (cast_eq _ _)).trans (congrArg I ?_)
  show (Rect.unit (s := S128x128) (k0_off1 L) S4x128.size _).emb x = _
  funext (a : Fin 2)
  refine Fin.ext ((rect_emb_unit_val _ _ _ _ _).trans ?_)
  refine (congrArg (· + (x a).val) (congrFun (k0_off1_eq L) a)).trans ?_
  match a with
  | 0 => show 8 * (L 1).val + 4 * (L 0).val + (x 0).val = 4 * (2 * (L 1).val + (L 0).val) + (x 0).val; omega
  | 1 => exact Nat.zero_add _

theorem fetched_rows (L : grid0.Coords) (Z : Rows F) :
    ((zV).slice (Rect.unit (s := S16384x32) (k0_off2 L) S512x32.size (k0_off2_inb L)) (fun _ => rfl)).view.read (Elt F) Z = rowsOf Z (wid L) := by
  funext x
  refine ((View.read_apply _ _).trans (cast_eq _ _)).trans (congrArg Z ?_)
  show (Rect.unit (s := S16384x32) (k0_off2 L) S512x32.size _).emb x = _
  funext (a : Fin 2)
  refine Fin.ext ((rect_emb_unit_val _ _ _ _ _).trans ?_)
  refine (congrArg (· + (x a).val) (congrFun (k0_off2_eq L) a)).trans ?_
  match a with
  | 0 => show 1024 * (L 1).val + 512 * (L 0).val + (x 0).val = 512 * (2 * (L 1).val + (L 0).val) + (x 0).val; omega
  | 1 => exact Nat.zero_add _

theorem nums_lt {I : Nums} (hI : ∀ x, (I x).toNat < 8192) (w : Fin 32) (x : S4x128.Idx) : (numsOf I w x).toNat < 8192 := hI _

/-- An assertion put aside: held, and named by nothing until it is taken up again. -/
def aside (P : sProp 𝕄) : sProp 𝕄 := P
theorem aside_intro (P : sProp 𝕄) : P ⊢ aside P := .rfl
theorem aside_elim (P : sProp 𝕄) : aside P ⊢ P := .rfl

/-- What one gathered row credits, in the semaphore's unit. -/
abbrev rowN : ℕ := ((r0).slice (S128x128.rowRect gathers_S8192x128_S128x128.axis' ⟨0, by decide⟩)
  (S128x128.stride_rowRect gathers_S8192x128_S128x128.axis' ⟨0, by decide⟩)).view.dmaCredit

variable [FloatOps F]

theorem rowsAt_zero (G : S512x128.Idx → F .f32) (Z : S512x32.Idx → F .f32) : rowsAt G Z 0 = G :=
  funext fun _ => dif_neg fun h => Nat.not_lt_zero _ h.1

/-- The loop's invariant before trip `k`: the rows below `k` shifted, the input rows, the squares below `k` summed. -/
def inv (d : Dev nD) (L : grid0.Coords) (G : S512x128.Idx → F .f32) (Z : S512x32.Idx → F .f32) (k : ℕ) (a : FVec F S16 .f32) : sProp 𝕄 :=
  iprop(⌜a = accAt G Z k⌝
    ∗ ((rV).view.loc (thr d L) ↦{fullShare} (rowsAt G Z k : Buf (Elt F) ((thr d L).loc cc0_scratch1)))
    ∗ ((xV).view.loc (thr d L) ↦{fullShare} (Z : Buf (Elt F) ((thr d L).loc cc0_scratch2))))

/-! ## What the write-outs leave -/

theorem written_rows (d : Dev nD) (L : grid0.Coords) (fo : Rows F) (w : S512x32.Idx → Elt F .f32) (G : Rows F)
    (hw : ∀ y, w y = G ((oBlk L).view.emb y)) :
    ((oBlk L).view.loc (thr d L) ↦[(oBlk L).view.set]{fullShare}
        ((oBlk L).view.writes (Elt F) fo [⟨Rect.whole S512x32, w⟩]) : sProp 𝕄)
      = oLoc d ↦[(oBlk L).view.set]{fullShare} (G : Buf (Elt F) (oLoc d)) := by
  refine pointsTo_congr (ℓ := oLoc d) fun i hi => ?_
  obtain ⟨y, -, rfl⟩ := Finset.mem_map.mp hi
  have h := View.read_writes_cons_hit (oBlk L).view (Val := Elt F) fo (Rect.whole S512x32) w [] y y
    ((Rect.whole S512x32).emb_eq_of_coords y y fun a => by show (y a).val = 0 + 1 * (y a).val; omega)
  exact (cast_eq _ _).symm.trans ((View.read_apply _ _).symm.trans (h.trans (hw y)))

theorem written_parts (d : Dev nD) (L : grid0.Coords) (fp : Parts F) (w : S16.Idx → Elt F .f32) (G : Parts F)
    (hw : ∀ y, w y = G ((pRow L).view.emb y)) :
    ((pRow L).view.loc (thr d L) ↦[(pRow L).view.set]{fullShare}
        ((pRow L).view.writes (Elt F) fp [⟨Rect.whole S16, w⟩]) : sProp 𝕄)
      = pLoc d ↦[(pRow L).view.set]{fullShare} (G : Buf (Elt F) (pLoc d)) := by
  refine pointsTo_congr (ℓ := pLoc d) fun i hi => ?_
  obtain ⟨y, -, rfl⟩ := Finset.mem_map.mp hi
  have h := View.read_writes_cons_hit (pRow L).view (Val := Elt F) fp (Rect.whole S16) w [] y y
    ((Rect.whole S16).emb_eq_of_coords y y fun a => by show (y a).val = 0 + 1 * (y a).val; omega)
  exact (cast_eq _ _).symm.trans ((View.read_apply _ _).symm.trans (h.trans (hw y)))

theorem emb_oBlk (L : grid0.Coords) (a : Fin 512) (b : Fin 32) :
    (oBlk L).view.emb (ix2 a b) = (ix2 ⟨512 * (wid L).val + a.val, by omega⟩ b : S16384x32.Idx) := by
  show (Rect.unit (s := S16384x32) (k0_off2 L) S512x32.size _).emb (ix2 a b) = _
  funext (i : Fin 2)
  refine Fin.ext ((rect_emb_unit_val _ _ _ _ _).trans ?_)
  refine (congrArg (· + ((ix2 a b : S512x32.Idx) i).val) (congrFun (k0_off2_eq L) i)).trans ?_
  match i with
  | 0 => show 1024 * (L 1).val + 512 * (L 0).val + a.val = 512 * (2 * (L 1).val + (L 0).val) + a.val; omega
  | 1 => exact Nat.zero_add _

theorem emb_pRow (L : grid0.Coords) (b : Fin 16) : (pRow L).view.emb (ix1 b) = (ix2 (wid L) b : S32x16.Idx) := by
  show (Rect.unit (s := S32x16) (k0_off7 L) S1x16.size _).emb (Shape.reshapeEquiv _ (ix1 b)) = _
  rw [show Shape.reshapeEquiv squeezes_S1x16_S16.numel_eq (ix1 b) = (ix2 0 b : S1x16.Idx) from
    Shape.reshapeEquiv_eq_of_rowMajor _ (by rw [Shape.rowMajor_val_two, Shape.rowMajor_val_one]; show 0 * 16 + b.val = b.val; omega)]
  funext (i : Fin 2)
  refine Fin.ext ((rect_emb_unit_val _ _ _ _ _).trans ?_)
  refine (congrArg (· + ((ix2 0 b : S1x16.Idx) i).val) (congrFun (k0_off7_eq L) i)).trans ?_
  match i with
  | 0 => show 2 * (L 1).val + (L 0).val + 0 = 2 * (L 1).val + (L 0).val; omega
  | 1 => exact Nat.zero_add _

/-- The first 32 lanes of the finished rows are the tile's block of the first result. -/
theorem out_value (L : grid0.Coords) (tb : Table F) (nm : Nums) (z : Rows F) (y : S512x32.Idx)
    {h : ∀ a, (![0, 0] : Fin 2 → ℕ) a + (![512, 32] : Fin 2 → ℕ) a ≤ S512x128.size a} {h'} :
    ((rV).slice (Rect.unit (s := S512x128) ![0, 0] ![512, 32] h) h').view.read (Elt F) (rowsAt (gOf tb nm (wid L)) (rowsOf z (wid L)) 512) y
      = zqOut tb nm z ((oBlk L).view.emb y) := by
  obtain ⟨a, b, rfl⟩ : ∃ (a : Fin 512) (b : Fin 32), y = ix2 a b := ⟨y 0, y 1, eq_ix2 y⟩
  rw [emb_oBlk]
  have he : (Rect.unit (s := S512x128) ![0, 0] ![512, 32] h).emb (ix2 a b) = (ix2 a ⟨b.val, by omega⟩ : S512x128.Idx) := by
    funext (i : Fin 2)
    refine Fin.ext ((rect_emb_unit_val _ _ _ _ _).trans ?_)
    match i with
    | 0 => exact Nat.zero_add _
    | 1 => exact Nat.zero_add _
  refine ((View.read_apply _ _).trans (cast_eq _ _)).trans ?_
  refine (congrArg (rowsAt (gOf tb nm (wid L)) (rowsOf z (wid L)) 512) he).trans ?_
  refine (rowsAt_done _ _ 512 a ⟨b.val, by omega⟩ a.isLt b.isLt).trans ?_
  have hw := (wid L).isLt
  have e1 : (⟨4 * (wid L).val + a.val / 128, by omega⟩ : Fin 128) = ⟨(512 * (wid L).val + a.val) / 128, by omega⟩ := Fin.ext (by
    show 4 * (wid L).val + a.val / 128 = (512 * (wid L).val + a.val) / 128; omega)
  have e2 : (⟨a.val % 128, by omega⟩ : Fin 128) = ⟨(512 * (wid L).val + a.val) % 128, by omega⟩ := Fin.ext (by
    show a.val % 128 = (512 * (wid L).val + a.val) % 128; omega)
  show shift (z (ix2 ⟨512 * (wid L).val + a.val, _⟩ b))
      (tb (ix2 (Fin.ofNat 8192 (nm (ix2 ⟨4 * (wid L).val + a.val / 128, _⟩ ⟨a.val % 128, _⟩)).toNat) ⟨b.val, _⟩))
    = shift (z (ix2 ⟨512 * (wid L).val + a.val, _⟩ b))
      (tb (ix2 (Fin.ofNat 8192 (nm (ix2 ⟨(512 * (wid L).val + a.val) / 128, _⟩ ⟨(512 * (wid L).val + a.val) % 128, _⟩)).toNat) ⟨b.val, _⟩))
  rw [e1, e2]

/-- The sixteen partial sums are the tile's row of the second result. -/
theorem parts_value (L : grid0.Coords) (tb : Table F) (nm : Nums) (z : Rows F) (y : S16.Idx) :
    accAt (gOf tb nm (wid L)) (rowsOf z (wid L)) 512 y = lpOut tb nm z ((pRow L).view.emb y) := by
  obtain ⟨b, rfl⟩ : ∃ b : Fin 16, y = ix1 b := ⟨y 0, eq_ix1 y⟩
  rw [emb_pRow]; rfl

theorem parts_read (fa : S16.Idx → Elt F .f32) (acc : FVec F S16 .f32) (h : ∀ a, (![0] : Fin 1 → ℕ) a + (![16] : Fin 1 → ℕ) a ≤ S16.size a)
    (y : S16.Idx) :
    (aV).view.read (Elt F) ((aV).view.writes (Elt F) fa [⟨Rect.unit (s := S16) ![0] ![16] h, k0_pay8 acc⟩]) y = acc y := by
  refine (View.read_writes_cons_hit_of_coords (aV).view (Val := Elt F) fa (Rect.unit (s := S16) ![0] ![16] h) (k0_pay8 acc) [] y y ?_).trans ?_
  · intro (a : Fin 1)
    match a with
    | 0 => show (y 0).val = 0 + 1 * (y 0).val; omega
  · exact congrFun (shapeCast_self acc _) y

set_option maxHeartbeats 8000000 in
/-- The task of tile `L` of device `d`, the row numbers in range. -/
theorem tile_body (hF : (K (F := F)).Facts) (d : Dev nD) (L : grid0.Coords) (tb : Table F) (nm : Nums) (z : Rows F) (fo : Rows F) (fp : Parts F)
    (hI : ∀ x, (nm x).toNat < 8192) (O : CellTallies nD τ sig (HIx 1)) (W : Waits sig (HIx 1)) (hO : ∀ g, O g none = 0) :
    iprop(levAts (K (F := F)).L (K (F := F)).lev ∗ emp ∗ tileHeld d L tb nm z fo fp
        ∗ scopedBufs (thr d L) ∗ scopedSems0 (thr d L) ∗ owes (thr d L) O W)
      ⊢ wp frame (wpE (defs₀ (F := F)) 𝒱₀ (thr d L) none) Set.univ
          (cc0_sc_kernel L tV (Memref.isWhole_whole _) iV (Memref.isWhole_whole _) zV (Memref.isWhole_whole _) oV (Memref.isWhole_whole _)
            pV (Memref.isWhole_whole _) nV (Memref.isWhole_whole _) rV (Memref.isWhole_whole _) xV (Memref.isWhole_whole _)
            aV (Memref.isWhole_whole _) cc0_scratch4 cc0_scoped0 cc0_scoped1 cc0_scoped2 cc0_scoped3)
          fun _ => iprop(tileHeld d L tb nm z (zqOut tb nm z) (lpOut tb nm z)
            ∗ scopedBufs (thr d L) ∗ scopedSems0 (thr d L)
            ∗ ∃ W', ⌜∀ p ∈ W', p ∈ W ∨ p.2 = none⌝ ∗ owes (thr d L) O W') := by
  simp only [cc0_sc_kernel_eq_skeleton]; unfold cc0_sc_kernel_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_tile, ownBufs_tile]
  unfold tileHeld
  iintro ⟨#Hlv, -, ⟨Ht, Hi, Hz, Ho, Hp⟩, ⟨⟨%fn, Hn⟩, ⟨%fr, Hr⟩, ⟨%fx, Hx⟩, ⟨%fa, Ha⟩, Hbufs⟩, ⟨HsG, HsA, HsB, HsC, HsD, Hsems⟩, HO⟩
  ihave Hmw := (show levAts (K (F := F)).L (K (F := F)).lev ⊢ Transfers.MayWaits (thr d L) (default : HIx 1) O from
    (K (F := F)).mayWaits_none (thr := thr d L) hO) $$ Hlv
  ihave Ht := (show (tLoc d ↦{tileShare L} (tb : Buf (Elt F) (tLoc d)) : sProp 𝕄) ⊢ (tV).view.loc (thr d L) ↦{tileShare L} tb from .rfl) $$ Ht
  ihave Hi := (show (iLoc d ↦{tileShare L} (nm : Buf (Elt F) (iLoc d)) : sProp 𝕄) ⊢ (iV).view.loc (thr d L) ↦{tileShare L} nm from .rfl) $$ Hi
  ihave Hz := (show (zLoc d ↦{tileShare L} (z : Buf (Elt F) (zLoc d)) : sProp 𝕄) ⊢ (zV).view.loc (thr d L) ↦{tileShare L} z from .rfl) $$ Hz
  ihave Ho := (show (oLoc d ↦[(oBlk L).view.set]{fullShare} (fo : Buf (Elt F) (oLoc d)) : sProp 𝕄)
    ⊢ (oBlk L).view.loc (thr d L) ↦[(oBlk L).view.set]{fullShare} fo from .rfl) $$ Ho
  ihave Hp := (show (pLoc d ↦[(pRow L).view.set]{fullShare} (fp : Buf (Elt F) (pLoc d)) : sProp 𝕄)
    ⊢ (pRow L).view.loc (thr d L) ↦[(pRow L).view.set]{fullShare} fp from .rfl) $$ Hp
  ihave Hn := (show ((thr d L).loc cc0_scratch0 ↦{fullShare} fn : sProp 𝕄) ⊢ (nV).view.loc (thr d L) ↦{fullShare} fn from .rfl) $$ Hn
  ihave Hr := (show ((thr d L).loc cc0_scratch1 ↦{fullShare} fr : sProp 𝕄) ⊢ (rV).view.loc (thr d L) ↦{fullShare} fr from .rfl) $$ Hr
  ihave Hx := (show ((thr d L).loc cc0_scratch2 ↦{fullShare} fx : sProp 𝕄) ⊢ (xV).view.loc (thr d L) ↦{fullShare} fx from .rfl) $$ Hx
  ihave Ha := (show ((thr d L).loc cc0_scratch3 ↦{fullShare} fa : sProp 𝕄) ⊢ (aV).view.loc (thr d L) ↦{fullShare} fa from .rfl) $$ Ha
  sl_exec
  have hN : ∀ x, (numsOf nm (wid L) x).toNat < 8192 := nums_lt hI (wid L)
  have hn0 : View.write (Elt F) (nV).view fn (tile_body.sl.dma0 L nm) Finset.univ = numsOf nm (wid L) :=
    (View.write_whole_univ _ _ _).trans (fetched_nums L nm)
  rw [hn0]
  imod (Transfers.batch_alloc' countersEmb (thr d L) (default : HIx 1) rowN
    (delivery d L (tileShare L) tb (numsOf nm (wid L)) hN fr)) $$ HsG with HB
  ihave Hr := (Entails.of_eq (pts_blocks d L fr)) $$ Hr
  icases Hr with ⟨Hr0, Hr1, Hr2, Hr3⟩
  ihave Hn := (Entails.of_eq (pts_lines d L (numsOf nm (wid L)))) $$ Hn
  icases Hn with ⟨Hn0, Hn1, Hn2, Hn3⟩
  ihave Ht := (Entails.of_eq (pts_table d L (tileShare L) tb)) $$ Ht
  icases Ht with ⟨Ht0, Ht1, Ht2, Ht3⟩
  iapply (wp_gatherIntoBatch countersEmb 𝒱₀ (thr d L) none (src := tAll) (dst := r0) (offs := n0) (hg := gathers_S8192x128_S128x128)
      (n := 512) (k := 0) (u := 0) (D := delivery d L (tileShare L) tb (numsOf nm (wid L)) hN fr) (default : HIx 1) rowN
      (fun _ => rfl) (by decide) (lines_lt (by omega) _ hN) (by decide) (Nat.zero_le _)
      (fun j => Entails.of_eq (delivery_at d L (tileShare L) tb (numsOf nm (wid L)) hN fr 0 j _ rfl).symm)) $$ [Ht0 Hr0 Hn0 HB]
  · isplitl [Ht0]; · iexact Ht0
    isplitl [Hr0]; · iexact Hr0
    isplitl [Hn0]; · iexact Hn0
    iexact HB
  iintro HB
  sl_exec
  iapply (wp_gatherIntoBatch countersEmb 𝒱₀ (thr d L) none (src := tAll) (dst := r1) (offs := n1) (hg := gathers_S8192x128_S128x128)
      (n := 512) (k := 128) (u := 0) (D := delivery d L (tileShare L) tb (numsOf nm (wid L)) hN fr) (default : HIx 1) rowN
      (fun _ => rfl) (by decide) (lines_lt (by omega) _ hN) (by decide) (Nat.zero_le _)
      (fun j => Entails.of_eq (delivery_at d L (tileShare L) tb (numsOf nm (wid L)) hN fr 1 j _ rfl).symm)) $$ [Ht1 Hr1 Hn1 HB]
  · isplitl [Ht1]; · iexact Ht1
    isplitl [Hr1]; · iexact Hr1
    isplitl [Hn1]; · iexact Hn1
    iexact HB
  iintro HB
  sl_exec
  iapply (wp_gatherIntoBatch countersEmb 𝒱₀ (thr d L) none (src := tAll) (dst := r2) (offs := n2) (hg := gathers_S8192x128_S128x128)
      (n := 512) (k := 256) (u := 0) (D := delivery d L (tileShare L) tb (numsOf nm (wid L)) hN fr) (default : HIx 1) rowN
      (fun _ => rfl) (by decide) (lines_lt (by omega) _ hN) (by decide) (Nat.zero_le _)
      (fun j => Entails.of_eq (delivery_at d L (tileShare L) tb (numsOf nm (wid L)) hN fr 2 j _ rfl).symm)) $$ [Ht2 Hr2 Hn2 HB]
  · isplitl [Ht2]; · iexact Ht2
    isplitl [Hr2]; · iexact Hr2
    isplitl [Hn2]; · iexact Hn2
    iexact HB
  iintro HB
  sl_exec
  iapply (wp_gatherIntoBatch countersEmb 𝒱₀ (thr d L) none (src := tAll) (dst := r3) (offs := n3) (hg := gathers_S8192x128_S128x128)
      (n := 512) (k := 384) (u := 0) (D := delivery d L (tileShare L) tb (numsOf nm (wid L)) hN fr) (default : HIx 1) rowN
      (fun _ => rfl) (by decide) (lines_lt (by omega) _ hN) (by decide) (Nat.zero_le _)
      (fun j => Entails.of_eq (delivery_at d L (tileShare L) tb (numsOf nm (wid L)) hN fr 3 j _ rfl).symm)) $$ [Ht3 Hr3 Hn3 HB]
  · isplitl [Ht3]; · iexact Ht3
    isplitl [Hr3]; · iexact Hr3
    isplitl [Hn3]; · iexact Hn3
    iexact HB
  iintro HB
  sl_exec
  ihave HB := (show Transfers.Batch countersEmb (thr d L) (SemLoc.dma (SemArray.sem cc0_scratch4)) (default : HIx 1) rowN
      (delivery d L (tileShare L) tb (numsOf nm (wid L)) hN fr) (384 + S128x128.size gathers_S8192x128_S128x128.axis') 0
    ⊢ Transfers.Batch countersEmb (thr d L) (SemLoc.dma (SemArray.sem cc0_scratch4)) (default : HIx 1) rowN
      (delivery d L (tileShare L) tb (numsOf nm (wid L)) hN fr) 512 0 from .rfl) $$ HB
  iapply (Transfers.wp_waitBatchMulO countersEmb 𝒱₀ (thr d L) none (default : HIx 1) (N := rowN) (n := 512) (j := 512) (u := 0)
    (D := delivery d L (tileShare L) tb (numsOf nm (wid L)) hN fr) 128 (by decide) (by omega)) $$ [HB HO]
  · isplitl [HB]; · iexact HB
    isplitl [HO]; · iexact HO
    iapply (Transfers.MayWaits.elim (SemLoc.dma cc0_scratch4.sem)) $$ Hmw
  iintro ⟨HB, HO⟩
  sl_exec
  iapply (Transfers.wp_waitBatchMulO countersEmb 𝒱₀ (thr d L) none (default : HIx 1) (N := rowN) (n := 512) (j := 512) (u := 0 + 128 * rowN)
    (D := delivery d L (tileShare L) tb (numsOf nm (wid L)) hN fr) 128 (by decide) (by omega)) $$ [HB HO]
  · isplitl [HB]; · iexact HB
    isplitl [HO]; · iexact HO
    iapply (Transfers.MayWaits.elim (SemLoc.dma cc0_scratch4.sem)) $$ Hmw
  iintro ⟨HB, HO⟩
  sl_exec
  iapply (Transfers.wp_waitBatchMulO countersEmb 𝒱₀ (thr d L) none (default : HIx 1) (N := rowN) (n := 512) (j := 512) (u := 0 + 128 * rowN + 128 * rowN)
    (D := delivery d L (tileShare L) tb (numsOf nm (wid L)) hN fr) 128 (by decide) (by omega)) $$ [HB HO]
  · isplitl [HB]; · iexact HB
    isplitl [HO]; · iexact HO
    iapply (Transfers.MayWaits.elim (SemLoc.dma cc0_scratch4.sem)) $$ Hmw
  iintro ⟨HB, HO⟩
  ihave HB := (aside_intro _) $$ HB
  sl_exec
  ihave HB := (aside_elim _) $$ HB
  iapply (Transfers.wp_waitBatchAllO countersEmb 𝒱₀ (thr d L) none (default : HIx 1) (N := rowN) (n := 512) (J := 128 * rowN) (u := 0 + 128 * rowN + 128 * rowN + 128 * rowN)
    (D := delivery d L (tileShare L) tb (numsOf nm (wid L)) hN fr)
    (by decide) (by decide) (by omega)) $$ [HB HO]
  · isplitl [HB]; · iexact HB
    isplitl [HO]; · iexact HO
    iapply (Transfers.MayWaits.elim (SemLoc.dma cc0_scratch4.sem)) $$ Hmw
  iintro ⟨HD, HsG, HO⟩
  ihave HD := (deliveries_join d L (tileShare L) tb (numsOf nm (wid L)) hN fr) $$ HD
  icases HD with ⟨Hr, Hn, Ht⟩
  have hx0 : View.write (Elt F) (xV).view fx (tile_body.sl.dma0_1 L z) Finset.univ = rowsOf z (wid L) :=
    (View.write_whole_univ _ _ _).trans (fetched_rows L z)
  rw [hx0]
  sl_exec
  have hr0 : gathered tb (numsOf nm (wid L)) = rowsAt (gOf tb nm (wid L)) (rowsOf z (wid L)) 0 := (rowsAt_zero _ _).symm
  rw [hr0]
  sl_for (inv d L (gOf tb nm (wid L)) (rowsOf z (wid L))) $$ [Hr Hx]
  case region =>
    intro k acc
    unfold inv
    iintro ⟨%hacc, Hr, Hx⟩
    subst hacc
    iapply (trip d L (gOf tb nm (wid L)) (rowsOf z (wid L)) k) $$ [Hr Hx]
    isplitl [Hr] <;> iassumption
  · unfold inv
    isplitr; · ipureintro; rfl
    isplitl [Hr] <;> iassumption
  iintro %acc HI
  unfold inv
  icases HI with ⟨%hacc, Hr, Hx⟩
  sl_exec
  sl_step
  have hT : Scf.trips k0_t1_loop.lb k0_t1_loop.ub k0_t1_loop.st = 512 := by decide
  rw [hT] at hacc
  have hpo : ∀ y, tile_body.sl.dma2 L tb nm z y = zqOut tb nm z ((oBlk L).view.emb y) := fun y => by
    unfold tile_body.sl.dma2
    rw [hT]
    exact out_value L tb nm z y
  have hpp : ∀ y, tile_body.sl.dma2_1 d L fa acc y = lpOut tb nm z ((pRow L).view.emb y) := fun y => by
    unfold tile_body.sl.dma2_1 tile_body.sl.Ha_1
    refine (parts_read fa _ _ y).trans ?_
    rw [hacc]
    exact parts_value L tb nm z y
  ihave Ho := (Entails.of_eq (written_rows d L fo _ _ hpo)) $$ Ho
  ihave Hp := (Entails.of_eq (written_parts d L fp _ _ hpp)) $$ Hp
  isplitl [Ht Hi Hz Ho Hp]
  · isplitl [Ht]; · iexact Ht
    isplitl [Hi]; · iexact Hi
    isplitl [Hz]; · iexact Hz
    isplitl [Ho]; · iexact Ho
    iexact Hp
  isplitl [Hn Hr Hx Ha Hbufs]
  · isplitl [Hn]; · iexists _; iexact Hn
    isplitl [Hr]; · iexists _; iexact Hr
    isplitl [Hx]; · iexists _; iexact Hx
    isplitl [Ha]; · iexists _; iexact Ha
    iexact Hbufs
  isplitl [HsG HsA HsB HsC HsD Hsems]
  · isplitl [HsG]; · iexact HsG
    isplitl [HsA]; · iexact HsA
    isplitl [HsB]; · iexact HsB
    isplitl [HsC]; · iexact HsC
    isplitl [HsD]; · iexact HsD
    iexact Hsems
  iexists _; isplitr
  swap; · iexact HO
  ipureintro; intro p hp
  simp only [Finset.mem_insert] at hp
  rcases hp with rfl | rfl | rfl | rfl | rfl | rfl | rfl | rfl | hp
  all_goals first | exact .inr rfl | exact .inl hp

end Cert.Proof.Tile

end
-- ==== Proof.Launch.lean ====
/-
  The one SparseCore call as the launch theorem takes it: what the call is handed and brings back, the tiles'
  obligation, and that the five arrays held whole are exactly what the 32 tiles hold together.
-/
module

public import proofs.«01_k».proof.Proof.Tile

@[expose] public section

noncomputable section

namespace Cert.Proof.Launch

open Cert.KernelIdeal Cert.KernelIdeal.Gen
open Cert.Proof.Values Cert.Proof.Setup Cert.Proof.Tile

open Idealize.ShloMosaic Idealize.ShloMosaic.ValueIdx Idealize.ShloMosaic.ValueKit
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (tb : Dev nD → Table F) (nm : Dev nD → Nums) (z fo : Dev nD → Rows F) (fp : Dev nD → Parts F)

/-! ## What the handshakes carry -/

/-- What tile `(c, s)` of device `d` is handed. -/
def goes (d : Dev nD) (c : Fin 2) (s : Fin 16) : sProp 𝕄 :=
  tileHeld d (coordsV c s) (tb d) (nm d) (z d) (fo d) (fp d)
/-- What it brings back: the same arrays, its blocks of the results written. -/
def comes (d : Dev nD) (c : Fin 2) (s : Fin 16) : sProp 𝕄 :=
  tileHeld d (coordsV c s) (tb d) (nm d) (z d) (zqOut (tb d) (nm d) (z d)) (lpOut (tb d) (nm d) (z d))

instance goes_storable (d : Dev nD) (c : Fin 2) (s : Fin 16) : BI.Storable (upEmb : UEmb _ 𝕄) (goes tb nm z fo fp d c s) := by
  unfold goes; infer_instance
instance comes_storable (d : Dev nD) (c : Fin 2) (s : Fin 16) : BI.Storable (upEmb : UEmb _ 𝕄) (comes tb nm z d c s) := by
  unfold comes; infer_instance

/-- Each SparseCore is handed what its 16 tiles are handed, and brings back what they bring back. -/
def P : (K (F := F)).Pay (nD := nD) (Val := Elt F) (Name := ℕ) (U := UU) where
  st := fun q d c => match q with | 0 => bigSep Finset.univ fun s : Fin 16 => goes tb nm z fo fp d c s
  dn := fun q d c => match q with | 0 => bigSep Finset.univ fun s : Fin 16 => comes tb nm z d c s
  go := fun q d c s => match q with | 0 => goes tb nm z fo fp d c s
  td := fun q d c s => match q with | 0 => comes tb nm z d c s
  x := fun _ _ => iprop(emp)

instance P_storable : (P (F := F) tb nm z fo fp).IsStorable where
  st q d c := match q with
    | 0 => (inferInstance : BI.Storable (upEmb : UEmb _ 𝕄) (bigSep Finset.univ fun s : Fin 16 => goes tb nm z fo fp d c s))
  dn q d c := match q with
    | 0 => (inferInstance : BI.Storable (upEmb : UEmb _ 𝕄) (bigSep Finset.univ fun s : Fin 16 => comes tb nm z d c s))
  go q d c s := match q with | 0 => (inferInstance : BI.Storable (upEmb : UEmb _ 𝕄) (goes tb nm z fo fp d c s))
  td q d c s := match q with | 0 => (inferInstance : BI.Storable (upEmb : UEmb _ 𝕄) (comes tb nm z d c s))

/-! ## The obligations -/

theorem defs₀_vector (c : Fin τ.nSC) (s : Fin τ.nSub) :
    defs₀ (F := F) (.scVector c s) 0 ()
      = SparseCore.onTile hcore0 hsub0 (fun c s => cc0_sc_kernel (coordsV c s)
          tV (Memref.isWhole_whole _) iV (Memref.isWhole_whole _) zV (Memref.isWhole_whole _) oV (Memref.isWhole_whole _) pV (Memref.isWhole_whole _)
          nV (Memref.isWhole_whole _) rV (Memref.isWhole_whole _) xV (Memref.isWhole_whole _) aV (Memref.isWhole_whole _)
          cc0_scratch4 cc0_scoped0 cc0_scoped1 cc0_scoped2 cc0_scoped3) ⟨⟩ c s := rfl

omit [FloatOps F] in
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile runs its task, the row numbers in range. -/
theorem tileObl (hF : (K (F := F)).Facts) (hI : ∀ d x, (nm d x).toNat < 8192) :
    (K (F := F)).TileObl (D (F := F)) 𝒱 (P tb nm z fo fp) v₀ 0 := by
  intro d c i O W hO _ _
  simp only [show (P tb nm z fo fp).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body hF d (coordsV ⟨_, hci.1⟩ ⟨_, hci.2⟩) (tb d) (nm d) (z d) (fo d) (fp d) (hI d) O W hO).trans
    (wp_mono frame _ _ fun _ => waits_weaken)

theorem vecSplit : (K (F := F)).VecSplit' (P tb nm z fo fp) 0 := by
  intro d c
  show (bigSep Finset.univ fun s : Fin 16 => goes tb nm z fo fp d c s) ⊢ |={Set.univ}=> iprop(
      (bigSep Finset.univ fun s : Fin 16 => goes tb nm z fo fp d c s)
      ∗ ((bigSep Finset.univ fun s : Fin 16 => comes tb nm z d c s) -∗ bigSep Finset.univ fun s : Fin 16 => comes tb nm z d c s))
  iintro H; imodintro
  isplitl [H]; · iexact H
  iintro H; iexact H

/-! ## The five arrays, whole and dealt -/

theorem wid_inj (c c' : Fin 2) (s s' : Fin 16) (h : wid (coordsV c s) = wid (coordsV c' s')) : c = c' ∧ s = s' := by
  have h' : 2 * s.val + c.val = 2 * s'.val + c'.val := congrArg Fin.val h
  exact ⟨Fin.ext (by omega), Fin.ext (by omega)⟩

theorem wid_surj (w : Fin 32) : ∃ c s, wid (coordsV c s) = w :=
  ⟨(⟨w.val % 2, by omega⟩ : Fin 2), (⟨w.val / 2, by omega⟩ : Fin 16), Fin.ext (by show 2 * (w.val / 2) + w.val % 2 = w.val; omega)⟩

theorem mem_oBlk (L : grid0.Coords) (x : S16384x32.Idx) : x ∈ (oBlk L).view.set ↔ (x 0).val / 512 = (wid L).val := by
  constructor
  · intro hx
    obtain ⟨y, -, rfl⟩ := Finset.mem_map.mp hx
    obtain ⟨a, b, rfl⟩ : ∃ a b, y = (ix2 a b : S512x32.Idx) := ⟨_, _, eq_ix2 y⟩
    rw [emb_oBlk]
    show (512 * (wid L).val + a.val) / 512 = _
    omega
  · intro hx
    have h0 := idx2_lt0 x
    refine Finset.mem_map.mpr ⟨(ix2 ⟨(x 0).val % 512, by omega⟩ ⟨(x 1).val, idx2_lt1 x⟩ : S512x32.Idx), Finset.mem_univ _, ?_⟩
    rw [emb_oBlk]
    refine Eq.trans ?_ (eq_ix2 x).symm
    congr 1
    exact Fin.ext (by show 512 * (wid L).val + (x 0).val % 512 = (x 0).val; omega)

theorem mem_pRow (L : grid0.Coords) (x : S32x16.Idx) : x ∈ (pRow L).view.set ↔ (x 0).val = (wid L).val := by
  constructor
  · intro hx
    obtain ⟨y, -, rfl⟩ := Finset.mem_map.mp hx
    obtain ⟨b, rfl⟩ : ∃ b, y = (ix1 b : S16.Idx) := ⟨_, eq_ix1 y⟩
    rw [emb_pRow]
  · intro hx
    refine Finset.mem_map.mpr ⟨(ix1 ⟨(x 1).val, idx2_lt1 x⟩ : S16.Idx), Finset.mem_univ _, ?_⟩
    rw [emb_pRow]
    refine Eq.trans ?_ (eq_ix2 x).symm
    congr 1
    exact Fin.ext hx.symm

/-- The tiles' blocks by grid position. -/
abbrev oSet (d : Dev nD) (p : Fin 2 × Fin 16) : Finset (Idx (oLoc d)) := (oBlk (coordsV p.1 p.2)).view.set
abbrev pSet (d : Dev nD) (p : Fin 2 × Fin 16) : Finset (Idx (pLoc d)) := (pRow (coordsV p.1 p.2)).view.set

theorem oSet_disjoint (d : Dev nD) (p p' : Fin 2 × Fin 16) (h : p ≠ p') : Disjoint (oSet d p) (oSet d p') := by
  refine Finset.disjoint_left.mpr fun x hx hx' => h ?_
  have e := (mem_oBlk _ _).mp hx
  have e' := (mem_oBlk _ _).mp hx'
  have := wid_inj p.1 p'.1 p.2 p'.2 (Fin.ext (e.symm.trans e'))
  exact Prod.ext this.1 this.2

theorem pSet_disjoint (d : Dev nD) (p p' : Fin 2 × Fin 16) (h : p ≠ p') : Disjoint (pSet d p) (pSet d p') := by
  refine Finset.disjoint_left.mpr fun x hx hx' => h ?_
  have e := (mem_pRow _ _).mp hx
  have e' := (mem_pRow _ _).mp hx'
  have := wid_inj p.1 p'.1 p.2 p'.2 (Fin.ext (e.symm.trans e'))
  exact Prod.ext this.1 this.2

theorem oSet_cover (d : Dev nD) : (Finset.univ : Finset (Fin 2 × Fin 16)).biUnion (oSet d) = Finset.univ := by
  refine Finset.eq_univ_iff_forall.mpr fun (x : S16384x32.Idx) => ?_
  have h0 := idx2_lt0 x
  obtain ⟨c, s, e⟩ := wid_surj ⟨(x 0).val / 512, by omega⟩
  exact Finset.mem_biUnion.mpr ⟨(c, s), Finset.mem_univ _, (mem_oBlk (coordsV c s) x).mpr (congrArg Fin.val e).symm⟩

theorem pSet_cover (d : Dev nD) : (Finset.univ : Finset (Fin 2 × Fin 16)).biUnion (pSet d) = Finset.univ := by
  refine Finset.eq_univ_iff_forall.mpr fun (x : S32x16.Idx) => ?_
  obtain ⟨c, s, e⟩ := wid_surj ⟨(x 0).val, idx2_lt0 x⟩
  exact Finset.mem_biUnion.mpr ⟨(c, s), Finset.mem_univ _, (mem_pRow (coordsV c s) x).mpr (congrArg Fin.val e).symm⟩

omit [FloatOps F] in
/-- An array every tile reads, dealt as the tiles' shares. -/
theorem deal_shares (ℓ : Loc nD τ sig) (f : Buf (Elt F) ℓ) :
    (ℓ ↦{fullShare} f : sProp 𝕄)
      = bigSep Finset.univ fun c : Fin 2 => bigSep Finset.univ fun s : Fin 16 => ℓ ↦{tileShare (coordsV c s)} f := by
  rw [pointsTo_piecesOf Finset.univ f (o := 2) (by omega) fullShare]
  refine bigSep_congr fun c _ => ?_
  rw [pointsTo_piecesOf Finset.univ f (o := 16) (by omega) (pieceOf fullShare 2 (by omega) c)]
  rfl

omit [FloatOps F] in
theorem deal_o (d : Dev nD) (f : Buf (Elt F) (oLoc d)) :
    (oLoc d ↦{fullShare} f : sProp 𝕄)
      = bigSep Finset.univ fun c : Fin 2 => bigSep Finset.univ fun s : Fin 16 => oLoc d ↦[(oBlk (coordsV c s)).view.set]{fullShare} f := by
  refine Eq.trans ?_ (bigSep_univ_prod fun p : Fin 2 × Fin 16 => (oLoc d ↦[oSet d p]{fullShare} f : sProp 𝕄))
  rw [← pointsTo_biUnion Finset.univ (ℓ := oLoc d) (oSet d) (fun p _ p' _ h => oSet_disjoint d p p' h), oSet_cover]

omit [FloatOps F] in
theorem deal_p (d : Dev nD) (f : Buf (Elt F) (pLoc d)) :
    (pLoc d ↦{fullShare} f : sProp 𝕄)
      = bigSep Finset.univ fun c : Fin 2 => bigSep Finset.univ fun s : Fin 16 => pLoc d ↦[(pRow (coordsV c s)).view.set]{fullShare} f := by
  refine Eq.trans ?_ (bigSep_univ_prod fun p : Fin 2 × Fin 16 => (pLoc d ↦[pSet d p]{fullShare} f : sProp 𝕄))
  rw [← pointsTo_biUnion Finset.univ (ℓ := pLoc d) (pSet d) (fun p _ p' _ h => pSet_disjoint d p p' h), pSet_cover]

/-- The call's five arrays held whole. -/
def whole5 (d : Dev nD) (t : Table F) (n : Nums) (x fo : Rows F) (fp : Parts F) : sProp 𝕄 :=
  iprop((tLoc d ↦{fullShare} (t : Buf (Elt F) (tLoc d))) ∗ (iLoc d ↦{fullShare} (n : Buf (Elt F) (iLoc d)))
    ∗ (zLoc d ↦{fullShare} (x : Buf (Elt F) (zLoc d))) ∗ (oLoc d ↦{fullShare} (fo : Buf (Elt F) (oLoc d)))
    ∗ (pLoc d ↦{fullShare} (fp : Buf (Elt F) (pLoc d))))

/-- The five arrays held whole are what the 32 tiles hold together. -/
theorem deal (d : Dev nD) (t : Table F) (n : Nums) (x fo : Rows F) (fp : Parts F) :
    (whole5 d t n x fo fp : sProp 𝕄)
      = bigSep Finset.univ fun c : Fin 2 => bigSep Finset.univ fun s : Fin 16 => tileHeld d (coordsV c s) t n x fo fp := by
  unfold whole5 tileHeld
  simp only [bigSep_sep']
  rw [← deal_shares, ← deal_shares, ← deal_shares, ← deal_o, ← deal_p]

/-- What @main hands the call, and what it gets back. -/
theorem st_eq (d : Dev nD) : (bigSep Finset.univ fun c : Fin ((K (F := F)).nCore 0) => (P tb nm z fo fp).st 0 d c)
    = whole5 d (tb d) (nm d) (z d) (fo d) (fp d) := (deal d _ _ _ _ _).symm
theorem dn_eq (d : Dev nD) : (bigSep Finset.univ fun c : Fin ((K (F := F)).nCore 0) => (P tb nm z fo fp).dn 0 d c)
    = whole5 d (tb d) (nm d) (z d) (zqOut (tb d) (nm d) (z d)) (lpOut (tb d) (nm d) (z d)) := (deal d _ _ _ _ _).symm

/-! ## The launch element of the ghost state -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tb nm z fo fp).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) tb nm z fo fp).x q thr) = bigSep Finset.univ fun _ => iprop(emp) from
    bigSep_congr fun _ _ => bigSep_univ_of_subsingleton (0 : Fin 1), bigSep_nothing]
  iempintro

end Cert.Proof.Launch

end
-- ==== Proof.Host.lean ====
/-
  @main's host operations around the one SparseCore call: as two straight lines, and what each array the proof names
  holds after them.
-/
module

public import proofs.«01_k».proof.Proof.Values
public import Idealize.ShloMosaic.Lib.StableHlo.Run
public import Idealize.ShloMosaic.PureOps.Reduce

@[expose] public section

noncomputable section

namespace Cert.Proof.Host

open Cert.KernelIdeal Cert.KernelIdeal.Gen
open Cert.Proof.Values

open Idealize.ShloMosaic Idealize.ShloMosaic.TcCoe Idealize.ShloMosaic.ValueIdx
open Idealize.ShloMosaic.StableHlo (seq after)
open Idealize.SL.Sem

variable {F : FTy → Type} [FloatOps F]

/-! ## The two lines -/

/-- The operations before the call. -/
abbrev preOps : List (HloOp τ sig (Elt F)) :=
  [ StableHlo.reshape main_arg0 main_v0 (rfl : (.f32 : EltTy) = .f32) shapeCasts_S16x1024x32_S16384x32,
    StableHlo.binary main_v0 main_v0 main_v1 (mulf : (⟨S16384x32, .f32⟩ : BufTy).Contents (Elt F) → (⟨S16384x32, .f32⟩ : BufTy).Contents (Elt F) → (⟨S16384x32, .f32⟩ : BufTy).Contents (Elt F)),
    StableHlo.nullary main_cst (constant S_ .f32 0x00000000#32),
    StableHlo.binary main_v1 main_cst main_v2 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    StableHlo.unary main_v2 main_v3 (broadcastInDim S16384x1 ![0] bcast_S16384_S16384x1_0 : (⟨S16384, .f32⟩ : BufTy).Contents (Elt F) → (⟨S16384x1, .f32⟩ : BufTy).Contents (Elt F)),
    StableHlo.binary main_arg1 main_arg1 main_v4 (mulf : (⟨S32x8192, .f32⟩ : BufTy).Contents (Elt F) → (⟨S32x8192, .f32⟩ : BufTy).Contents (Elt F) → (⟨S32x8192, .f32⟩ : BufTy).Contents (Elt F)),
    StableHlo.nullary main_cst_0 (constant S_ .f32 0x00000000#32),
    StableHlo.binary main_v4 main_cst_0 main_v5 ((fun x v => Host.reduceAdd x v reducesTo_S32x8192_S8192_d0 h_S_) : (⟨S32x8192, .f32⟩ : BufTy).Contents (Elt F) → (⟨S_, .f32⟩ : BufTy).Contents (Elt F) → (⟨S8192, .f32⟩ : BufTy).Contents (Elt F)),
    StableHlo.unary main_v0 main_v6 ((truncf .bf16 · bitsLt_bf16_f32) : (⟨S16384x32, .f32⟩ : BufTy).Contents (Elt F) → (⟨S16384x32, .bf16⟩ : BufTy).Contents (Elt F)),
    StableHlo.binary main_v6 main_arg1 main_v7 ((fun l r => Host.dotGeneral dot_S16384x32_S32x8192_S16384x8192_1_0_0_1_n_n none l r) : (⟨S16384x32, .bf16⟩ : BufTy).Contents (Elt F) → (⟨S32x8192, .f32⟩ : BufTy).Contents (Elt F) → (⟨S16384x8192, .f32⟩ : BufTy).Contents (Elt F)),
    StableHlo.unary main_v5 main_v8 (broadcastInDim S1x8192 ![1] bcast_S8192_S1x8192_1 : (⟨S8192, .f32⟩ : BufTy).Contents (Elt F) → (⟨S1x8192, .f32⟩ : BufTy).Contents (Elt F)),
    StableHlo.unary main_v3 main_v9 (broadcastInDim S16384x8192 ![0, 1] bcast_S16384x1_S16384x8192_0_1 : (⟨S16384x1, .f32⟩ : BufTy).Contents (Elt F) → (⟨S16384x8192, .f32⟩ : BufTy).Contents (Elt F)),
    StableHlo.unary main_v8 main_v10 (broadcastInDim S16384x8192 ![0, 1] bcast_S1x8192_S16384x8192_0_1 : (⟨S1x8192, .f32⟩ : BufTy).Contents (Elt F) → (⟨S16384x8192, .f32⟩ : BufTy).Contents (Elt F)),
    StableHlo.binary main_v9 main_v10 main_v11 (addf : (⟨S16384x8192, .f32⟩ : BufTy).Contents (Elt F) → (⟨S16384x8192, .f32⟩ : BufTy).Contents (Elt F) → (⟨S16384x8192, .f32⟩ : BufTy).Contents (Elt F)),
    StableHlo.nullary main_cst_1 (constant S_ .f32 0x40000000#32),
    StableHlo.unary main_cst_1 main_v12 (broadcastInDim S16384x8192 ![] bcast_S_S16384x8192 : (⟨S_, .f32⟩ : BufTy).Contents (Elt F) → (⟨S16384x8192, .f32⟩ : BufTy).Contents (Elt F)),
    StableHlo.binary main_v12 main_v7 main_v13 (mulf : (⟨S16384x8192, .f32⟩ : BufTy).Contents (Elt F) → (⟨S16384x8192, .f32⟩ : BufTy).Contents (Elt F) → (⟨S16384x8192, .f32⟩ : BufTy).Contents (Elt F)),
    StableHlo.binary main_v11 main_v13 main_v14 (subf : (⟨S16384x8192, .f32⟩ : BufTy).Contents (Elt F) → (⟨S16384x8192, .f32⟩ : BufTy).Contents (Elt F) → (⟨S16384x8192, .f32⟩ : BufTy).Contents (Elt F)),
    StableHlo.TRef.nullary main_call0.v0 (iotaInDim S16384x8192 32 1),
    StableHlo.TRef.nullary main_call0.cst (constant S_ .f32 0x7F800000#32),
    StableHlo.TRef.nullary main_call0.c (constantI S_ 32 0#32),
    StableHlo.TRef.quaternary (.of main_v14 : StableHlo.TRef sig ⟨S16384x8192, .f32⟩) main_call0.v0 main_call0.cst main_call0.c main_call0.v1_0 (fun x y u v j => (Host.argReduce reducer_argmin_f32_i32 x y u v reducesTo_S16384x8192_S16384_d1 h_S_ j).1),
    StableHlo.TRef.quaternary (.of main_v14 : StableHlo.TRef sig ⟨S16384x8192, .f32⟩) main_call0.v0 main_call0.cst main_call0.c main_call0.v1_1 (fun x y u v j => (Host.argReduce reducer_argmin_f32_i32 x y u v reducesTo_S16384x8192_S16384_d1 h_S_ j).2),
    StableHlo.unary main_arg1 main_v16 ((transpose S8192x32 [1, 0] · transposes_S32x8192_S8192x32_1_0) : (⟨S32x8192, .f32⟩ : BufTy).Contents (Elt F) → (⟨S8192x32, .f32⟩ : BufTy).Contents (Elt F)),
    StableHlo.nullary main_c (constantI S_ 32 0#32),
    StableHlo.TRef.unary (.of main_c : StableHlo.TRef sig ⟨S_, .i32⟩) main_call1.v0 (sitofp .f32),
    StableHlo.TRef.binary (.of main_v16 : StableHlo.TRef sig ⟨S8192x32, .f32⟩) main_call1.v0 main_call1.v1 (fun x v => pad S8192x128 ![0, 0] ![0, 96] ![0, 0] x v pads_S8192x32_S8192x128_000_0960 h_S_),
    StableHlo.reshape main_v15 main_v18 (rfl : (.i32 : EltTy) = .i32) shapeCasts_S16384_S128x128 ]

/-- The operations after it. -/
abbrev postOps : List (HloOp τ sig (Elt F)) :=
  [ StableHlo.reshape main_v19_0 main_v20 (rfl : (.f32 : EltTy) = .f32) shapeCasts_S16384x32_S16x1024x32,
    StableHlo.nullary main_cst_2 (constant S_ .f32 0x00000000#32),
    StableHlo.binary main_v19_1 main_cst_2 main_v21 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.nullary main_cst_3 (constant S_ .f32 0x49000000#32),
    StableHlo.binary main_v21 main_cst_3 main_v22 (Host.divf : (⟨S_, .f32⟩ : BufTy).Contents (Elt F) → (⟨S_, .f32⟩ : BufTy).Contents (Elt F) → (⟨S_, .f32⟩ : BufTy).Contents (Elt F)),
    StableHlo.nullary main_cst_4 (constant S_ .f32 0x3E800000#32),
    StableHlo.binary main_cst_4 main_v22 main_v23 (mulf : (⟨S_, .f32⟩ : BufTy).Contents (Elt F) → (⟨S_, .f32⟩ : BufTy).Contents (Elt F) → (⟨S_, .f32⟩ : BufTy).Contents (Elt F)),
    StableHlo.binary main_v23 main_v22 main_v24 (addf : (⟨S_, .f32⟩ : BufTy).Contents (Elt F) → (⟨S_, .f32⟩ : BufTy).Contents (Elt F) → (⟨S_, .f32⟩ : BufTy).Contents (Elt F)) ]

/-- @main is the first line, the call, the second line. -/
theorem main_eq (d : Dev nD) :
    main (F := F) d = (seq preOps >>= fun _ => ((sc (F := F)).run d 0 >>= fun _ => seq postOps)) := by
  simp only [main, fn_argmin.body, fn_pad.body, seq, bind_assoc, pure_bind]

theorem preOps_sub : ∀ op ∈ (preOps : List (HloOp τ sig (Elt F))), op.bufs ⊆ StableHlo.tcRefs τ sig :=
  List.forall_iff_forall_mem.mp (by simp)
theorem postOps_sub : ∀ op ∈ (postOps : List (HloOp τ sig (Elt F))), op.bufs ⊆ StableHlo.tcRefs τ sig :=
  List.forall_iff_forall_mem.mp (by simp)
theorem preOps_fresh : ∀ op ∈ (preOps : List (HloOp τ sig (Elt F))), op.fresh = ∅ :=
  List.forall_iff_forall_mem.mp (StableHlo.forall_fresh_of_map rfl)
theorem postOps_fresh : ∀ op ∈ (postOps : List (HloOp τ sig (Elt F))), op.fresh = ∅ :=
  List.forall_iff_forall_mem.mp (StableHlo.forall_fresh_of_map rfl)

/-! ## What the first line computes -/

/-- The input as rows of 32. -/
def flat (A : FVec F S16x1024x32 .f32) : FVec F S16384x32 .f32 := shapeCast S16384x32 A shapeCasts_S16x1024x32_S16384x32

/-- The distances from every row to every code word: `(|z|² + |e|²) - 2·(z·e)`, the row rounded to bf16 in the product. -/
def dist (A : FVec F S16x1024x32 .f32) (B : FVec F S32x8192 .f32) : FVec F S16384x8192 .f32 :=
  subf
    (addf
      (broadcastInDim S16384x8192 ![0, 1] bcast_S16384x1_S16384x8192_0_1
        (broadcastInDim S16384x1 ![0] bcast_S16384_S16384x1_0
          (Host.reduceAdd (mulf (flat A) (flat A)) (constant S_ .f32 0x00000000#32) reducesTo_S16384x32_S16384_d1 h_S_)))
      (broadcastInDim S16384x8192 ![0, 1] bcast_S1x8192_S16384x8192_0_1
        (broadcastInDim S1x8192 ![1] bcast_S8192_S1x8192_1
          (Host.reduceAdd (mulf B B) (constant S_ .f32 0x00000000#32) reducesTo_S32x8192_S8192_d0 h_S_))))
    (mulf (broadcastInDim S16384x8192 ![] bcast_S_S16384x8192 (constant S_ .f32 0x40000000#32))
      (Host.dotGeneral dot_S16384x32_S32x8192_S16384x8192_1_0_0_1_n_n none (truncf .bf16 (flat A) bitsLt_bf16_f32) B))

/-- The index of the least entry along the reduced axes. -/
def leastAt {s t u : Shape} {axes : List (Fin s.rank)} (x : FVec F s .f32) (y : s.Idx → BitVec 32)
    (ix : FVec F u .f32) (iy : u.Idx → BitVec 32) (h : s.ReducesTo axes t) (hu : 0 < u.numel) (j : t.Idx) : BitVec 32 :=
  (Host.argReduce reducer_argmin_f32_i32 x y ix iy h hu j).2

/-- The row of the nearest code word, from the distances. -/
def nearest (x : FVec F S16384x8192 .f32) : S16384.Idx → BitVec 32 :=
  leastAt x (iotaInDim S16384x8192 32 1) (constant S_ .f32 0x7F800000#32) (constantI S_ 32 0#32)
    reducesTo_S16384x8192_S16384_d1 h_S_

/-- The table: the code words as rows, each padded to 128 lanes. -/
def table (B : FVec F S32x8192 .f32) : Table F :=
  pad S8192x128 ![0, 0] ![0, 96] ![0, 0] (transpose S8192x32 [1, 0] B transposes_S32x8192_S8192x32_1_0)
    (sitofp .f32 (constantI S_ 32 0#32)) pads_S8192x32_S8192x128_000_0960 h_S_

/-- The row numbers, 128 to a line. -/
def lines (n : S16384.Idx → BitVec 32) : Nums := shapeCast S128x128 n shapeCasts_S16384_S128x128

/-! ## The row numbers are in range -/

/-- A property of the initial value and of every entry, kept by the step, holds of a left fold. -/
theorem foldl_keeps {α : Type} (p : α → Prop) (f : α → α → α) (hf : ∀ a b, p a → p b → p (f a b)) (l : List α) (a : α)
    (ha : p a) (hl : ∀ b ∈ l, p b) : p (l.foldl f a) := by
  induction l generalizing a with
  | nil => exact ha
  | cons b l ih => exact ih _ (hf a b ha (hl b (by simp))) fun c hc => hl c (by simp [hc])

/-- The index an argmin yields is one of those it was given, or the initial one: what all of them have it has, for
    any float values, not-a-numbers included. -/
theorem argmin_all {s t u : Shape} {axes : List (Fin s.rank)} (p : BitVec 32 → Prop) (x : FVec F s .f32) (y : s.Idx → BitVec 32)
    (ix : FVec F u .f32) (iy : u.Idx → BitVec 32) (h : s.ReducesTo axes t) (hu : 0 < u.numel) (j : t.Idx)
    (hy : ∀ i, p (y i)) (hiy : ∀ i, p (iy i)) :
    p (Host.argReduce reducer_argmin_f32_i32 x y ix iy h hu j).2 := by
  have hfib : ∀ q ∈ Host.argReduceFiber x y h j, p q.2 := by
    intro q hq
    obtain ⟨n, -, rfl⟩ := List.mem_map.mp hq
    exact hy _
  by_cases hn : 2 ≤ (Host.argReduceNaNs x y h j).length
  · have hm := Host.argReduce_mem_nans reducer_argmin_f32_i32 x y ix iy h hu j hn
    exact hfib _ ((Host.mem_argReduceNaNs_iff _ _ _ _ _).mp hm).1
  · rw [Host.argReduce_apply_eq_reduce2 _ _ _ _ _ _ _ _ (by omega),
      Host.reduce2_eq_foldl_fiber]
    refine foldl_keeps (fun q : F .f32 × BitVec 32 => p q.2) reducer_argmin_f32_i32 ?_ _ _ (hiy _) hfib
    intro a b ha hb
    simp only [reducer_argmin_f32_i32, Scalar.select]
    split <;> assumption

theorem leastAt_all {s t u : Shape} {axes : List (Fin s.rank)} (p : BitVec 32 → Prop) (x : FVec F s .f32) (y : s.Idx → BitVec 32)
    (ix : FVec F u .f32) (iy : u.Idx → BitVec 32) (h : s.ReducesTo axes t) (hu : 0 < u.numel) (j : t.Idx)
    (hy : ∀ i, p (y i)) (hiy : ∀ i, p (iy i)) : p (leastAt x y ix iy h hu j) :=
  argmin_all p x y ix iy h hu j hy hiy

theorem iota_lt (i : S16384x8192.Idx) : (iotaInDim S16384x8192 32 1 i).toNat < 8192 := by
  have h := idx2_lt1 i
  unfold iotaInDim
  rw [BitVec.toNat_ofNat]
  exact (Nat.mod_le _ _).trans_lt h

/-- What holds of every column number and of 0 holds of the nearest code word's number. -/
theorem nearest_all (p : BitVec 32 → Prop) (h : ∀ i, p (iotaInDim S16384x8192 32 1 i)) (h0 : p 0#32)
    (x : FVec F S16384x8192 .f32) (j : S16384.Idx) : p (nearest x j) :=
  leastAt_all p x _ _ _ _ _ j h fun _ => h0

/-- The nearest code word's number is below 8192. -/
theorem nearest_lt (x : FVec F S16384x8192 .f32) (j : S16384.Idx) : (nearest x j).toNat < 8192 :=
  nearest_all (fun b => b.toNat < 8192) iota_lt (by decide) x j

/-- What is true of every number is true of every number of the lines. -/
theorem lines_all (p : BitVec 32 → Prop) (n : S16384.Idx → BitVec 32) (h : ∀ j, p (n j)) (i : S128x128.Idx) : p (lines n i) := h _
theorem lines_lt (x : FVec F S16384x8192 .f32) (i : S128x128.Idx) : (lines (nearest x) i).toNat < 8192 :=
  lines_all (fun b => b.toNat < 8192) _ (nearest_lt x) i

/-! ## What the buffers hold after the first line -/

variable (V : Valuation τ sig (Elt F))

theorem pre_arg0 : after preOps V (main_arg0 : DevRef τ sig) = V (main_arg0 : DevRef τ sig) := by
  after_results
theorem pre_arg1 : after preOps V (main_arg1 : DevRef τ sig) = V (main_arg1 : DevRef τ sig) := by
  after_results
theorem pre_v0 : after preOps V (main_v0 : DevRef τ sig) = flat (V (main_arg0 : DevRef τ sig)) := by
  after_results
  rfl
theorem pre_v14 : after preOps V (main_v14 : DevRef τ sig) = dist (V (main_arg0 : DevRef τ sig)) (V (main_arg1 : DevRef τ sig)) := by
  after_results
  rfl
theorem pre_v15 : after preOps V (main_v15 : DevRef τ sig)
    = nearest (dist (V (main_arg0 : DevRef τ sig)) (V (main_arg1 : DevRef τ sig))) := by
  after_results
  rfl
theorem pre_v17 : after preOps V (main_v17 : DevRef τ sig) = table (V (main_arg1 : DevRef τ sig)) := by
  after_results
  unfold table
  simp only [StableHlo.TRef.toBuf, StableHlo.TRef.ofBuf, cast_eq]
theorem pre_v18_of (n : S16384.Idx → BitVec 32) (h : after preOps V (main_v15 : DevRef τ sig) = n) :
    after preOps V (main_v18 : DevRef τ sig) = lines n := by
  subst h
  after_results
  rfl

theorem pre_v18 : after preOps V (main_v18 : DevRef τ sig)
    = lines (nearest (dist (V (main_arg0 : DevRef τ sig)) (V (main_arg1 : DevRef τ sig)))) :=
  pre_v18_of V _ (pre_v15 V)

/-! ## What the second line computes -/

/-- The mean of the squares from the partial sums, and the loss: a quarter of it and itself. -/
def mean (p : Parts F) : FVec F S_ .f32 :=
  Host.divf (Host.reduceAdd p (constant S_ .f32 0x00000000#32) reducesTo_S32x16_S_d0_1 h_S_) (constant S_ .f32 0x49000000#32)
def loss (p : Parts F) : FVec F S_ .f32 := addf (mulf (constant S_ .f32 0x3E800000#32) (mean p)) (mean p)

theorem post_arg0 : after postOps V (main_arg0 : DevRef τ sig) = V (main_arg0 : DevRef τ sig) := by
  after_results
theorem post_arg1 : after postOps V (main_arg1 : DevRef τ sig) = V (main_arg1 : DevRef τ sig) := by
  after_results
theorem post_v15 : after postOps V (main_v15 : DevRef τ sig) = V (main_v15 : DevRef τ sig) := by
  after_results
theorem post_v20 : after postOps V (main_v20 : DevRef τ sig)
    = shapeCast S16x1024x32 (V (main_v19_0 : DevRef τ sig)) shapeCasts_S16384x32_S16x1024x32 := by
  after_results
  rfl
theorem post_v24 : after postOps V (main_v24 : DevRef τ sig) = loss (V (main_v19_1 : DevRef τ sig)) := by
  after_results
  rfl

end Cert.Proof.Host

end
-- ==== Proof.Run.lean ====
/-
  The whole program, over any float values: the row numbers are in range whatever the arithmetic does, @main runs
  its two straight lines around the SparseCore call, and every run ends with the three results as functions of the
  two arguments, the arguments unchanged and every semaphore at zero.
-/
module

public import proofs.«01_k».proof.Proof.Launch
public import proofs.«01_k».proof.Proof.Host
public import Idealize.ShloMosaic.Lib.Pipeline.Frame

@[expose] public section

noncomputable section

namespace Cert.Proof.Run

open Cert.KernelIdeal Cert.KernelIdeal.Gen
open Cert.Proof.Values Cert.Proof.Setup Cert.Proof.Launch Cert.Proof.Host

open Idealize.ShloMosaic Idealize.ShloMosaic.TcCoe Idealize.ShloMosaic.ValueIdx
open Idealize.ShloMosaic.SparseCore (S V T)
open Idealize.ShloMosaic.SparseCore.Cfg (HIx Pay)
open Idealize.ShloMosaic.StableHlo (seq after held wp_seq)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What the buffers hold at each stage -/

variable (m : (ℓ : Loc nD τ sig) → Buf (Elt F) ℓ) (ρ : Dev nD → PrngReg)

/-- Before the call. -/
@[irreducible] def VPre (d : Dev nD) : Valuation τ sig (Elt F) := after preOps (StableHlo.launchContents m d)

def tb (d : Dev nD) : Table F := VPre m d (main_v17 : DevRef τ sig)
def nm (d : Dev nD) : Nums := VPre m d (main_v18 : DevRef τ sig)
def z (d : Dev nD) : Rows F := VPre m d (main_v0 : DevRef τ sig)
def fo (d : Dev nD) : Rows F := VPre m d (main_v19_0 : DevRef τ sig)
def fp (d : Dev nD) : Parts F := VPre m d (main_v19_1 : DevRef τ sig)

/-- After the call: its two results written. -/
@[irreducible] def VMid (d : Dev nD) : Valuation τ sig (Elt F) :=
  Function.update
    (Function.update (VPre m d) (main_v19_0 : DevRef τ sig) (zqOut (tb m d) (nm m d) (z m d) : Rows F))
    (main_v19_1 : DevRef τ sig) (lpOut (tb m d) (nm m d) (z m d) : Parts F)

/-- At the end. -/
@[irreducible] def VEnd (d : Dev nD) : Valuation τ sig (Elt F) := after postOps (VMid m d)

/-- The call's five arrays. -/
def T5 : Finset (DevRef τ sig) :=
  {(main_v17 : DevRef τ sig), (main_v18 : DevRef τ sig), (main_v0 : DevRef τ sig), (main_v19_0 : DevRef τ sig), (main_v19_1 : DevRef τ sig)}

theorem T5_sub : T5 ⊆ Pipeline.ucRefs τ sig := by decide

omit [FloatOps F] in
theorem held_T5 (d : Dev nD) (W : Valuation τ sig (Elt F)) :
    (held (d.tc : Thread nD τ) T5 W : sProp 𝕄)
      = whole5 d (W (main_v17 : DevRef τ sig)) (W (main_v18 : DevRef τ sig)) (W (main_v0 : DevRef τ sig))
          (W (main_v19_0 : DevRef τ sig)) (W (main_v19_1 : DevRef τ sig)) := by
  unfold held T5 whole5
  rw [SparseCore.bigSep_insert' (by decide), SparseCore.bigSep_insert' (by decide), SparseCore.bigSep_insert' (by decide),
    SparseCore.bigSep_insert' (by decide), bigSep_singleton]

theorem VPre_eq (d : Dev nD) : VPre m d = after preOps (StableHlo.launchContents m d) := by unfold VPre; rfl
theorem VEnd_eq (d : Dev nD) : VEnd m d = after postOps (VMid m d) := by unfold VEnd; rfl

theorem VMid_of_ne (d : Dev nD) (b : DevRef τ sig) (h0 : b ≠ (main_v19_0 : DevRef τ sig)) (h1 : b ≠ (main_v19_1 : DevRef τ sig)) :
    VMid m d b = VPre m d b := by
  unfold VMid
  rw [Function.update_of_ne h1, Function.update_of_ne h0]
theorem VMid_o (d : Dev nD) : VMid m d (main_v19_0 : DevRef τ sig) = zqOut (tb m d) (nm m d) (z m d) := by
  unfold VMid
  rw [Function.update_of_ne (by decide), Function.update_self]
theorem VMid_p (d : Dev nD) : VMid m d (main_v19_1 : DevRef τ sig) = lpOut (tb m d) (nm m d) (z m d) := by
  unfold VMid
  rw [Function.update_self]

/-- What the call is handed, out of everything @main holds; and what it brings back, into it. -/
theorem held_before (d : Dev nD) : (held (d.tc : Thread nD τ) (Pipeline.ucRefs τ sig) (VPre m d) : sProp 𝕄)
    = iprop(whole5 d (tb m d) (nm m d) (z m d) (fo m d) (fp m d) ∗ held (d.tc : Thread nD τ) (Pipeline.ucRefs τ sig \ T5) (VPre m d)) := by
  rw [StableHlo.held_sub_split _ T5_sub, held_T5]; rfl
theorem held_behind (d : Dev nD) : (held (d.tc : Thread nD τ) (Pipeline.ucRefs τ sig) (VMid m d) : sProp 𝕄)
    = iprop(whole5 d (tb m d) (nm m d) (z m d) (zqOut (tb m d) (nm m d) (z m d)) (lpOut (tb m d) (nm m d) (z m d))
        ∗ held (d.tc : Thread nD τ) (Pipeline.ucRefs τ sig \ T5) (VPre m d)) := by
  rw [StableHlo.held_sub_split _ T5_sub, held_T5, VMid_o, VMid_p, VMid_of_ne m d _ (by decide) (by decide),
    VMid_of_ne m d _ (by decide) (by decide), VMid_of_ne m d _ (by decide) (by decide)]
  unfold tb nm z
  refine congrArg (BI.sep (_ : sProp 𝕄)) ?_
  refine StableHlo.held_congr _ fun b hb => VMid_of_ne m d b ?_ ?_
  · rintro rfl; exact (Finset.mem_sdiff.mp hb).2 (by decide)
  · rintro rfl; exact (Finset.mem_sdiff.mp hb).2 (by decide)

/-! ## @main on the TensorCore -/

/-- What @main ends with: every buffer of the device, at its final contents. -/
abbrev FIN (d : Dev nD) : sProp 𝕄 := held (d.tc : Thread nD τ) (Pipeline.ucRefs τ sig) (VEnd m d)

set_option backward.isDefEq.respectTransparency.types false in
theorem hmain (κ : GSem nD τ sig → ℕ) (d : Dev nD) :
    iprop((K (F := F)).ctx EH (P (tb m) (nm m) (z m) (fo m) (fp m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((d.tc : Thread nD τ).loc b)) : sProp 𝕄)
      = held (d.tc : Thread nD τ) (Pipeline.ucRefs τ sig) (StableHlo.launchContents m d) from
    Pipeline.unscopedBufs_held d (StableHlo.launchContents m d), main_eq]
  iintro ⟨#Hctx, Hst, ⟨Hb, Hheld, Hts, -⟩, -⟩
  iapply (wp_seq 𝒱 none Set.univ d (Pipeline.ucRefs τ sig) _ preOps
    (fun op h => Pipeline.sub_ucRefs op (preOps_sub op h)) preOps_fresh (StableHlo.launchContents m d)) $$ [Hb Hheld]
  · isplitl [Hb] <;> iassumption
  iintro ⟨Hb, Hheld⟩
  ihave Hh := (Entails.of_eq ((congrArg _ (VPre_eq m d).symm).trans (held_before m d))) $$ Hheld
  icases Hh with ⟨H5, Hrest⟩
  rw [wp_bind]
  iapply ((K (F := F)).wp_run (D (F := F)) 𝒱 (EH := EH) (P := P (tb m) (nm m) (z m) (fo m) (fp m)) κ d 0) $$ [Hst H5 Hb Hrest Hts]
  isplitr; · iexact Hctx
  isplitl [Hst]; · iexact Hst
  isplitl [H5]
  · rw [st_eq]; iexact H5
  iintro ⟨Hst, Hdn⟩
  ihave H5 := (Entails.of_eq (dn_eq (tb m) (nm m) (z m) (fo m) (fp m) d)) $$ Hdn
  ihave Hheld := (Entails.of_eq (held_behind m d).symm) $$ [H5 Hrest]
  · isplitl [H5] <;> iassumption
  rw [← bind_pure (seq postOps)]
  iapply (wp_seq 𝒱 none Set.univ d (Pipeline.ucRefs τ sig) _ postOps
    (fun op h => Pipeline.sub_ucRefs op (postOps_sub op h)) postOps_fresh (VMid m d)) $$ [Hb Hheld]
  · isplitl [Hb] <;> iassumption
  iintro ⟨Hb, Hheld⟩
  rw [wp_pure]; imodintro
  isplitl [Hst]; · iexact Hst
  isplitr [Hb Hts]
  · unfold FIN; rw [VEnd_eq]; iexact Hheld
  isplitl [Hb] <;> iassumption

/-- What the final state is read for: every buffer of the device, at its final contents. -/
def fq (d : Dev nD) (s' : Phys nD τ sig (Elt F)) : Prop := ∀ b ∈ Pipeline.ucRefs τ sig, s'.mem.mem (d, b) = VEnd m d b

theorem hfin (d : Dev nD) (s' : Phys nD τ sig (Elt F)) : iprop(FIN m d ∗ SI s') ⊢ (⌜fq m d s'⌝ : sProp 𝕄) := by
  iintro ⟨Hheld, HSI⟩
  unfold FIN held
  ihave %h := (SI_pointsTo_bufs_agree (qs := fun _ => fullShare) (Pipeline.ucRefs τ sig)) $$ [HSI Hheld]
  · isplitl [HSI] <;> iassumption
  ipureintro; exact h

/-! ## The run -/

/-- The three results as functions of the two arguments. -/
def outZ (A : FVec F S16x1024x32 .f32) (B : FVec F S32x8192 .f32) : FVec F S16x1024x32 .f32 :=
  shapeCast S16x1024x32 (zqOut (table B) (lines (nearest (dist A B))) (flat A)) shapeCasts_S16384x32_S16x1024x32
def outI (A : FVec F S16x1024x32 .f32) (B : FVec F S32x8192 .f32) : S16384.Idx → BitVec 32 := nearest (dist A B)
def outL (A : FVec F S16x1024x32 .f32) (B : FVec F S32x8192 .f32) : FVec F S_ .f32 :=
  loss (lpOut (table B) (lines (nearest (dist A B))) (flat A))

def argA (c : Dev nD) : FVec F S16x1024x32 .f32 := m ((c.tc : Thread nD τ).loc main_arg0)
def argB (c : Dev nD) : FVec F S32x8192 .f32 := m ((c.tc : Thread nD τ).loc main_arg1)

theorem tb_eq (d : Dev nD) : tb m d = table (argB m d) := by unfold tb; rw [VPre_eq]; exact pre_v17 _
theorem nm_eq (d : Dev nD) : nm m d = lines (nearest (dist (argA m d) (argB m d))) := by unfold nm; rw [VPre_eq]; exact pre_v18 _
theorem z_eq (d : Dev nD) : z m d = flat (argA m d) := by unfold z; rw [VPre_eq]; exact pre_v0 _

theorem end_arg0 (d : Dev nD) : VEnd m d (main_arg0 : DevRef τ sig) = argA m d := by
  unfold VEnd
  rw [post_arg0, VMid_of_ne m d _ (by decide) (by decide), VPre_eq]
  exact pre_arg0 _
theorem end_arg1 (d : Dev nD) : VEnd m d (main_arg1 : DevRef τ sig) = argB m d := by
  unfold VEnd
  rw [post_arg1, VMid_of_ne m d _ (by decide) (by decide), VPre_eq]
  exact pre_arg1 _
theorem end_v15 (d : Dev nD) : VEnd m d (main_v15 : DevRef τ sig) = outI (argA m d) (argB m d) := by
  unfold VEnd
  rw [post_v15, VMid_of_ne m d _ (by decide) (by decide), VPre_eq]
  exact pre_v15 _
theorem end_v20 (d : Dev nD) : VEnd m d (main_v20 : DevRef τ sig) = outZ (argA m d) (argB m d) := by
  unfold VEnd
  rw [post_v20, VMid_o, tb_eq, nm_eq, z_eq]; rfl
theorem end_v24 (d : Dev nD) : VEnd m d (main_v24 : DevRef τ sig) = outL (argA m d) (argB m d) := by
  unfold VEnd
  rw [post_v24, VMid_p, tb_eq, nm_eq, z_eq]; rfl

/-- How every run ends: the results at their values, the arguments unchanged, the semaphores at zero. -/
def QC : PUnit × MemSt nD τ sig (Elt F) → Prop := fun r =>
  (∀ c : Dev nD,
      r.2.mem ((c.tc : Thread nD τ).loc main_v20) = outZ (argA m c) (argB m c)
    ∧ r.2.mem ((c.tc : Thread nD τ).loc main_v15) = outI (argA m c) (argB m c)
    ∧ r.2.mem ((c.tc : Thread nD τ).loc main_v24) = outL (argA m c) (argB m c)
    ∧ r.2.mem ((c.tc : Thread nD τ).loc main_arg0) = argA m c
    ∧ r.2.mem ((c.tc : Thread nD τ).loc main_arg1) = argB m c)
  ∧ r.2.sem = fun _ => 0

theorem read_end (s' : Phys nD τ sig (Elt F)) (d : Dev nD) (h : fq m d s') :
    s'.mem.mem ((d.tc : Thread nD τ).loc main_v20) = outZ (argA m d) (argB m d)
    ∧ s'.mem.mem ((d.tc : Thread nD τ).loc main_v15) = outI (argA m d) (argB m d)
    ∧ s'.mem.mem ((d.tc : Thread nD τ).loc main_v24) = outL (argA m d) (argB m d)
    ∧ s'.mem.mem ((d.tc : Thread nD τ).loc main_arg0) = argA m d
    ∧ s'.mem.mem ((d.tc : Thread nD τ).loc main_arg1) = argB m d :=
  ⟨(h (main_v20 : DevRef τ sig) (by decide)).trans (end_v20 m d),
    (h (main_v15 : DevRef τ sig) (by decide)).trans (end_v15 m d),
    (h (main_v24 : DevRef τ sig) (by decide)).trans (end_v24 m d),
    (h (main_arg0 : DevRef τ sig) (by decide)).trans (end_arg0 m d),
    (h (main_arg1 : DevRef τ sig) (by decide)).trans (end_arg1 m d)⟩

theorem nm_lt (d : Dev nD) (x : S128x128.Idx) : (nm m d x).toNat < 8192 := by
  rw [nm_eq]; exact lines_lt _ x

/-- Every run of the program, from any launch memory and registers, ends as `QC` says. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH)
    (P := P (tb m) (nm m) (z m) (fo m) (fp m)) (A := ∅) facts v₀
    (fun q hq => match q with | 0 => nomatch hq)
    (fun q _ => match q with | 0 => tileObl (tb m) (nm m) (z m) (fo m) (fp m) facts (nm_lt m))
    (fun q _ => match q with | 0 => SparseCore.Cfg.VecSplit.of_plain (vecSplit (tb m) (nm m) (z m) (fo m) (fp m)))
    m ρ main (fun _ => iprop(emp)) (FIN m) (u₀ (F := F))
    (sep_elim_left.trans (hu₀ (tb m) (nm m) (z m) (fo m) (fp m))) (hmain m ρ) (fq m) (hfin m) (QC m)
    (fun _ h hz => ⟨fun c => read_end m _ c (h c), hz⟩)

end Cert.Proof.Run

end
-- ==== Proof.Ref.lean ====
/-
  The reference's run: @main as one straight line of host operations, what it computes, and that it leaves its
  arguments and the semaphores as they were.
-/
module

public import proofs.«01_k».proof.Proof.Gen.ReferenceIdeal
public import Idealize.ShloMosaic.Lib.StableHlo.Run
public import Idealize.ShloMosaic.Lib.Quiescent

@[expose] public section

noncomputable section

namespace Cert.Proof.Ref

open Cert.ReferenceIdeal Cert.ReferenceIdeal.Gen

open Idealize.ShloMosaic Idealize.ShloMosaic.TcCoe
open Idealize.ShloMosaic.StableHlo (seq after)
open Idealize.SL.Sem

variable {F : FTy → Type} [FloatOps F]

/-- @main's operations up to the argmin, and the rest. -/
abbrev opsA : List (HloOp τ sig (Elt F)) :=
  [ StableHlo.reshape main_arg0 main_v0 (rfl : (.f32 : EltTy) = .f32) shapeCasts_S16x1024x32_S16384x32,
    StableHlo.binary main_v0 main_v0 main_v1 (mulf : (⟨S16384x32, .f32⟩ : BufTy).Contents (Elt F) → (⟨S16384x32, .f32⟩ : BufTy).Contents (Elt F) → (⟨S16384x32, .f32⟩ : BufTy).Contents (Elt F)),
    StableHlo.nullary main_cst (constant S_ .f32 0x00000000#32),
    StableHlo.binary main_v1 main_cst main_v2 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    StableHlo.unary main_v2 main_v3 (broadcastInDim S16384x1 ![0] bcast_S16384_S16384x1_0 : (⟨S16384, .f32⟩ : BufTy).Contents (Elt F) → (⟨S16384x1, .f32⟩ : BufTy).Contents (Elt F)),
    StableHlo.binary main_arg1 main_arg1 main_v4 (mulf : (⟨S32x8192, .f32⟩ : BufTy).Contents (Elt F) → (⟨S32x8192, .f32⟩ : BufTy).Contents (Elt F) → (⟨S32x8192, .f32⟩ : BufTy).Contents (Elt F)),
    StableHlo.nullary main_cst_0 (constant S_ .f32 0x00000000#32),
    StableHlo.binary main_v4 main_cst_0 main_v5 ((fun x v => Host.reduceAdd x v reducesTo_S32x8192_S8192_d0 h_S_) : (⟨S32x8192, .f32⟩ : BufTy).Contents (Elt F) → (⟨S_, .f32⟩ : BufTy).Contents (Elt F) → (⟨S8192, .f32⟩ : BufTy).Contents (Elt F)),
    StableHlo.unary main_v5 main_v6 (broadcastInDim S1x8192 ![1] bcast_S8192_S1x8192_1 : (⟨S8192, .f32⟩ : BufTy).Contents (Elt F) → (⟨S1x8192, .f32⟩ : BufTy).Contents (Elt F)),
    StableHlo.unary main_v3 main_v7 (broadcastInDim S16384x8192 ![0, 1] bcast_S16384x1_S16384x8192_0_1 : (⟨S16384x1, .f32⟩ : BufTy).Contents (Elt F) → (⟨S16384x8192, .f32⟩ : BufTy).Contents (Elt F)),
    StableHlo.unary main_v6 main_v8 (broadcastInDim S16384x8192 ![0, 1] bcast_S1x8192_S16384x8192_0_1 : (⟨S1x8192, .f32⟩ : BufTy).Contents (Elt F) → (⟨S16384x8192, .f32⟩ : BufTy).Contents (Elt F)),
    StableHlo.binary main_v7 main_v8 main_v9 (addf : (⟨S16384x8192, .f32⟩ : BufTy).Contents (Elt F) → (⟨S16384x8192, .f32⟩ : BufTy).Contents (Elt F) → (⟨S16384x8192, .f32⟩ : BufTy).Contents (Elt F)),
    StableHlo.binary main_v0 main_arg1 main_v10 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F)),
    StableHlo.nullary main_cst_1 (constant S_ .f32 0x40000000#32),
    StableHlo.unary main_cst_1 main_v11 (broadcastInDim S16384x8192 ![] bcast_S_S16384x8192 : (⟨S_, .f32⟩ : BufTy).Contents (Elt F) → (⟨S16384x8192, .f32⟩ : BufTy).Contents (Elt F)),
    StableHlo.binary main_v11 main_v10 main_v12 (mulf : (⟨S16384x8192, .f32⟩ : BufTy).Contents (Elt F) → (⟨S16384x8192, .f32⟩ : BufTy).Contents (Elt F) → (⟨S16384x8192, .f32⟩ : BufTy).Contents (Elt F)),
    StableHlo.binary main_v9 main_v12 main_v13 (subf : (⟨S16384x8192, .f32⟩ : BufTy).Contents (Elt F) → (⟨S16384x8192, .f32⟩ : BufTy).Contents (Elt F) → (⟨S16384x8192, .f32⟩ : BufTy).Contents (Elt F)),
    StableHlo.TRef.nullary main_call0.v0 (iotaInDim S16384x8192 32 1),
    StableHlo.TRef.nullary main_call0.cst (constant S_ .f32 0x7F800000#32),
    StableHlo.TRef.nullary main_call0.c (constantI S_ 32 0#32),
    StableHlo.TRef.quaternary (.of main_v13 : StableHlo.TRef sig ⟨S16384x8192, .f32⟩) main_call0.v0 main_call0.cst main_call0.c main_call0.v1_0 (fun x y u v j => (Host.argReduce reducer_argmin_f32_i32 x y u v reducesTo_S16384x8192_S16384_d1 h_S_ j).1),
    StableHlo.TRef.quaternary (.of main_v13 : StableHlo.TRef sig ⟨S16384x8192, .f32⟩) main_call0.v0 main_call0.cst main_call0.c main_call0.v1_1 (fun x y u v j => (Host.argReduce reducer_argmin_f32_i32 x y u v reducesTo_S16384x8192_S16384_d1 h_S_ j).2) ]
abbrev opsB : List (HloOp τ sig (Elt F)) :=
  [ StableHlo.TRef.unary (.of main_v14 : StableHlo.TRef sig ⟨S16384, .i32⟩) main_call1.v0 (broadcastInDim S16384x1 ![0] bcast_S16384_S16384x1_0),
    StableHlo.TRef.nullary main_call1.v1 (iotaInDim S1x8192 32 1),
    StableHlo.TRef.unary main_call1.v0 main_call1.v2 (broadcastInDim S16384x8192 ![0, 1] bcast_S16384x1_S16384x8192_0_1),
    StableHlo.TRef.unary main_call1.v1 main_call1.v3 (broadcastInDim S16384x8192 ![0, 1] bcast_S1x8192_S16384x8192_0_1),
    StableHlo.TRef.binary main_call1.v2 main_call1.v3 main_call1.v4 (cmpi .eq),
    StableHlo.TRef.unary main_call1.v4 main_call1.v5 (uitofp .f32),
    StableHlo.unary main_arg1 main_v16 ((transpose S8192x32 [1, 0] · transposes_S32x8192_S8192x32_1_0) : (⟨S32x8192, .f32⟩ : BufTy).Contents (Elt F) → (⟨S8192x32, .f32⟩ : BufTy).Contents (Elt F)),
    StableHlo.binary main_v15 main_v16 main_v17 ((fun l r => Host.dotGeneral dot_S16384x8192_S8192x32_S16384x32_1_0_0_1_n_n none l r) : (⟨S16384x8192, .f32⟩ : BufTy).Contents (Elt F) → (⟨S8192x32, .f32⟩ : BufTy).Contents (Elt F) → (⟨S16384x32, .f32⟩ : BufTy).Contents (Elt F)),
    StableHlo.reshape main_v17 main_v18 (rfl : (.f32 : EltTy) = .f32) shapeCasts_S16384x32_S16x1024x32,
    StableHlo.binary main_v18 main_arg0 main_v19 (subf : (⟨S16x1024x32, .f32⟩ : BufTy).Contents (Elt F) → (⟨S16x1024x32, .f32⟩ : BufTy).Contents (Elt F) → (⟨S16x1024x32, .f32⟩ : BufTy).Contents (Elt F)),
    StableHlo.binary main_v19 main_v19 main_v20 (mulf : (⟨S16x1024x32, .f32⟩ : BufTy).Contents (Elt F) → (⟨S16x1024x32, .f32⟩ : BufTy).Contents (Elt F) → (⟨S16x1024x32, .f32⟩ : BufTy).Contents (Elt F)),
    StableHlo.nullary main_cst_2 (constant S_ .f32 0x00000000#32),
    StableHlo.binary main_v20 main_cst_2 main_v21 ((fun x v => Host.reduceAdd x v reducesTo_S16x1024x32_S_d0_1_2 h_S_) : (⟨S16x1024x32, .f32⟩ : BufTy).Contents (Elt F) → (⟨S_, .f32⟩ : BufTy).Contents (Elt F) → (⟨S_, .f32⟩ : BufTy).Contents (Elt F)),
    StableHlo.nullary main_cst_3 (constant S_ .f32 0x49000000#32),
    StableHlo.binary main_v21 main_cst_3 main_v22 (Host.divf : (⟨S_, .f32⟩ : BufTy).Contents (Elt F) → (⟨S_, .f32⟩ : BufTy).Contents (Elt F) → (⟨S_, .f32⟩ : BufTy).Contents (Elt F)),
    StableHlo.nullary main_cst_4 (constant S_ .f32 0x3E800000#32),
    StableHlo.binary main_cst_4 main_v22 main_v23 (mulf : (⟨S_, .f32⟩ : BufTy).Contents (Elt F) → (⟨S_, .f32⟩ : BufTy).Contents (Elt F) → (⟨S_, .f32⟩ : BufTy).Contents (Elt F)),
    StableHlo.binary main_v18 main_arg0 main_v24 (subf : (⟨S16x1024x32, .f32⟩ : BufTy).Contents (Elt F) → (⟨S16x1024x32, .f32⟩ : BufTy).Contents (Elt F) → (⟨S16x1024x32, .f32⟩ : BufTy).Contents (Elt F)),
    StableHlo.binary main_v24 main_v24 main_v25 (mulf : (⟨S16x1024x32, .f32⟩ : BufTy).Contents (Elt F) → (⟨S16x1024x32, .f32⟩ : BufTy).Contents (Elt F) → (⟨S16x1024x32, .f32⟩ : BufTy).Contents (Elt F)),
    StableHlo.nullary main_cst_5 (constant S_ .f32 0x00000000#32),
    StableHlo.binary main_v25 main_cst_5 main_v26 ((fun x v => Host.reduceAdd x v reducesTo_S16x1024x32_S_d0_1_2 h_S_) : (⟨S16x1024x32, .f32⟩ : BufTy).Contents (Elt F) → (⟨S_, .f32⟩ : BufTy).Contents (Elt F) → (⟨S_, .f32⟩ : BufTy).Contents (Elt F)),
    StableHlo.nullary main_cst_6 (constant S_ .f32 0x49000000#32),
    StableHlo.binary main_v26 main_cst_6 main_v27 (Host.divf : (⟨S_, .f32⟩ : BufTy).Contents (Elt F) → (⟨S_, .f32⟩ : BufTy).Contents (Elt F) → (⟨S_, .f32⟩ : BufTy).Contents (Elt F)),
    StableHlo.binary main_v23 main_v27 main_v28 (addf : (⟨S_, .f32⟩ : BufTy).Contents (Elt F) → (⟨S_, .f32⟩ : BufTy).Contents (Elt F) → (⟨S_, .f32⟩ : BufTy).Contents (Elt F)),
    StableHlo.binary main_v18 main_arg0 main_v29 (subf : (⟨S16x1024x32, .f32⟩ : BufTy).Contents (Elt F) → (⟨S16x1024x32, .f32⟩ : BufTy).Contents (Elt F) → (⟨S16x1024x32, .f32⟩ : BufTy).Contents (Elt F)),
    StableHlo.binary main_arg0 main_v29 main_v30 (addf : (⟨S16x1024x32, .f32⟩ : BufTy).Contents (Elt F) → (⟨S16x1024x32, .f32⟩ : BufTy).Contents (Elt F) → (⟨S16x1024x32, .f32⟩ : BufTy).Contents (Elt F)) ]

/-- @main's operations in order. -/
abbrev ops : List (HloOp τ sig (Elt F)) := opsA ++ opsB

theorem main_eq (d : Dev nD) : main (F := F) d = seq ops := by
  simp only [main, fn_argmin.body, fn_one_hot.body, seq, List.cons_append, List.nil_append, bind_assoc, pure_bind]
theorem ops_sub : (ops : List (HloOp τ sig (Elt F))).Forall fun op => op.bufs ⊆ StableHlo.tcRefs τ sig := by simp
theorem ops_fresh : ∀ op ∈ (ops : List (HloOp τ sig (Elt F))), op.fresh = ∅ :=
  List.forall_iff_forall_mem.mp (StableHlo.forall_fresh_of_map rfl)

theorem scopedRefs_eq : (Finset.univ.filter fun b : Ref sig .tc => b.isScoped) = ∅ := by decide
theorem scopedSems_eq : (Finset.univ.filter fun sm : SemLoc sig => sm.isScoped .tc) = ∅ := by decide

/-! ## What it computes -/

/-- The input as rows of 32. -/
def flat (A : FVec F S16x1024x32 .f32) : FVec F S16384x32 .f32 := shapeCast S16384x32 A shapeCasts_S16x1024x32_S16384x32

/-- The distances from every row to every code word: `(|z|² + |e|²) - 2·(z·e)`. -/
def dist (A : FVec F S16x1024x32 .f32) (B : FVec F S32x8192 .f32) : FVec F S16384x8192 .f32 :=
  subf
    (addf
      (broadcastInDim S16384x8192 ![0, 1] bcast_S16384x1_S16384x8192_0_1
        (broadcastInDim S16384x1 ![0] bcast_S16384_S16384x1_0
          (Host.reduceAdd (mulf (flat A) (flat A)) (constant S_ .f32 0x00000000#32) reducesTo_S16384x32_S16384_d1 h_S_)))
      (broadcastInDim S16384x8192 ![0, 1] bcast_S1x8192_S16384x8192_0_1
        (broadcastInDim S1x8192 ![1] bcast_S8192_S1x8192_1
          (Host.reduceAdd (mulf B B) (constant S_ .f32 0x00000000#32) reducesTo_S32x8192_S8192_d0 h_S_))))
    (mulf (broadcastInDim S16384x8192 ![] bcast_S_S16384x8192 (constant S_ .f32 0x40000000#32))
      (Host.dotGeneral dot_S16384x32_S32x8192_S16384x8192_1_0_0_1_n_n none (flat A) B))

/-- The index of the least entry along the reduced axes. -/
def leastAt {s t u : Shape} {axes : List (Fin s.rank)} (x : FVec F s .f32) (y : s.Idx → BitVec 32)
    (ix : FVec F u .f32) (iy : u.Idx → BitVec 32) (h : s.ReducesTo axes t) (hu : 0 < u.numel) (j : t.Idx) : BitVec 32 :=
  (Host.argReduce reducer_argmin_f32_i32 x y ix iy h hu j).2

/-- The row of the nearest code word, from the distances. -/
def nearest (x : FVec F S16384x8192 .f32) : S16384.Idx → BitVec 32 :=
  leastAt x (iotaInDim S16384x8192 32 1) (constant S_ .f32 0x7F800000#32) (constantI S_ 32 0#32)
    reducesTo_S16384x8192_S16384_d1 h_S_

/-- Each row number as a row of zeros and one 1. -/
def oneHot (n : S16384.Idx → BitVec 32) : FVec F S16384x8192 .f32 :=
  uitofp .f32 (cmpi .eq
    (broadcastInDim S16384x8192 ![0, 1] bcast_S16384x1_S16384x8192_0_1 (broadcastInDim S16384x1 ![0] bcast_S16384_S16384x1_0 n))
    (broadcastInDim S16384x8192 ![0, 1] bcast_S1x8192_S16384x8192_0_1 (iotaInDim S1x8192 32 1)))

/-- The code words chosen, shaped as the input. -/
def chosen (o : FVec F S16384x8192 .f32) (B : FVec F S32x8192 .f32) : FVec F S16x1024x32 .f32 :=
  shapeCast S16x1024x32
    (Host.dotGeneral dot_S16384x8192_S8192x32_S16384x32_1_0_0_1_n_n none o
      (transpose S8192x32 [1, 0] B transposes_S32x8192_S8192x32_1_0)) shapeCasts_S16384x32_S16x1024x32

/-- The mean of the squared differences; the loss; the value passed on. -/
def mean (q A : FVec F S16x1024x32 .f32) : FVec F S_ .f32 :=
  Host.divf (Host.reduceAdd (mulf (subf q A) (subf q A)) (constant S_ .f32 0x00000000#32) reducesTo_S16x1024x32_S_d0_1_2 h_S_)
    (constant S_ .f32 0x49000000#32)
def loss (q A : FVec F S16x1024x32 .f32) : FVec F S_ .f32 := addf (mulf (constant S_ .f32 0x3E800000#32) (mean q A)) (mean q A)
def passed (q A : FVec F S16x1024x32 .f32) : FVec F S16x1024x32 .f32 := addf A (subf q A)

variable (V : Valuation τ sig (Elt F))

theorem a_arg0 : after opsA V (main_arg0 : DevRef τ sig) = V (main_arg0 : DevRef τ sig) := by
  after_results
theorem a_arg1 : after opsA V (main_arg1 : DevRef τ sig) = V (main_arg1 : DevRef τ sig) := by
  after_results
theorem a_v14 : after opsA V (main_v14 : DevRef τ sig)
    = nearest (dist (V (main_arg0 : DevRef τ sig)) (V (main_arg1 : DevRef τ sig))) := by
  after_results
  rfl
theorem b_arg0 : after opsB V (main_arg0 : DevRef τ sig) = V (main_arg0 : DevRef τ sig) := by
  after_results
theorem b_arg1 : after opsB V (main_arg1 : DevRef τ sig) = V (main_arg1 : DevRef τ sig) := by
  after_results
theorem b_v14 : after opsB V (main_v14 : DevRef τ sig) = V (main_v14 : DevRef τ sig) := by
  after_results
theorem b_v18 : after opsB V (main_v18 : DevRef τ sig)
    = chosen (oneHot (V (main_v14 : DevRef τ sig))) (V (main_arg1 : DevRef τ sig)) := by
  after_results
  rfl
theorem b_v28 : after opsB V (main_v28 : DevRef τ sig)
    = loss (chosen (oneHot (V (main_v14 : DevRef τ sig))) (V (main_arg1 : DevRef τ sig))) (V (main_arg0 : DevRef τ sig)) := by
  after_results
  rfl
theorem b_v30 : after opsB V (main_v30 : DevRef τ sig)
    = passed (chosen (oneHot (V (main_v14 : DevRef τ sig))) (V (main_arg1 : DevRef τ sig))) (V (main_arg0 : DevRef τ sig)) := by
  after_results
  rfl

/-! ## The run -/

/-- The code words the reference chooses, from the arguments. -/
def quant (A : FVec F S16x1024x32 .f32) (B : FVec F S32x8192 .f32) : FVec F S16x1024x32 .f32 :=
  chosen (oneHot (nearest (dist A B))) B

/-- Two lines one after the other. -/
theorem after_both (l l' : List (HloOp τ sig (Elt F))) : ∀ V, after (l ++ l') V = after l' (after l V) := by
  induction l with
  | nil => exact fun _ => rfl
  | cons op l ih => exact fun V => ih (op.result V)
theorem after_ops : after ops V = after opsB (after opsA V) := after_both _ _ _
theorem at_arg0 : after ops V (main_arg0 : DevRef τ sig) = V (main_arg0 : DevRef τ sig) := by
  rw [after_ops, b_arg0, a_arg0]
theorem at_arg1 : after ops V (main_arg1 : DevRef τ sig) = V (main_arg1 : DevRef τ sig) := by
  rw [after_ops, b_arg1, a_arg1]
theorem at_v14 : after ops V (main_v14 : DevRef τ sig)
    = nearest (dist (V (main_arg0 : DevRef τ sig)) (V (main_arg1 : DevRef τ sig))) := by
  rw [after_ops, b_v14, a_v14]
theorem at_v28 : after ops V (main_v28 : DevRef τ sig)
    = loss (quant (V (main_arg0 : DevRef τ sig)) (V (main_arg1 : DevRef τ sig))) (V (main_arg0 : DevRef τ sig)) := by
  rw [after_ops, b_v28, a_v14, a_arg0, a_arg1]; unfold quant; rfl
theorem at_v30 : after ops V (main_v30 : DevRef τ sig)
    = passed (quant (V (main_arg0 : DevRef τ sig)) (V (main_arg1 : DevRef τ sig))) (V (main_arg0 : DevRef τ sig)) := by
  rw [after_ops, b_v30, a_v14, a_arg0, a_arg1]; unfold quant; rfl

variable (m : (ℓ : Loc nD τ sig) → Buf (Elt F) ℓ) (ρ : Dev nD → PrngReg)

def argA (c : Dev nD) : FVec F S16x1024x32 .f32 := m ((c.tc : Thread nD τ).loc main_arg0)
def argB (c : Dev nD) : FVec F S32x8192 .f32 := m ((c.tc : Thread nD τ).loc main_arg1)

/-- Every run of the reference ends with its three results at their values, its arguments unchanged and every
    semaphore at zero. -/
theorem run_main : θ_run (defs (F := F)) (onTc (τ := τ) (main (F := F))) ⟨m, fun _ => 0, ρ⟩ fun r =>
    (∀ c : Dev nD,
        r.2.mem ((c.tc : Thread nD τ).loc main_v30) = passed (quant (argA m c) (argB m c)) (argA m c)
      ∧ r.2.mem ((c.tc : Thread nD τ).loc main_v14) = nearest (dist (argA m c) (argB m c))
      ∧ r.2.mem ((c.tc : Thread nD τ).loc main_v28) = loss (quant (argA m c) (argB m c)) (argA m c)
      ∧ r.2.mem ((c.tc : Thread nD τ).loc main_arg0) = argA m c
      ∧ r.2.mem ((c.tc : Thread nD τ).loc main_arg1) = argB m c)
    ∧ r.2.sem = fun _ => 0 :=
  (θ_run (defs (F := F)) _ _).mono
    (fun r h => ⟨fun c => ⟨(h c main_v30).trans (at_v30 _), (h c main_v14).trans (at_v14 _),
      (h c main_v28).trans (at_v28 _), (h c main_arg0).trans (at_arg0 _), (h c main_arg1).trans (at_arg1 _)⟩,
      sem_eq_zero_of_no_sems rfl _⟩)
    (StableHlo.run_seq scopedRefs_eq scopedSems_eq defs main (fun _ => ops) main_eq (fun _ => ops_sub) m ρ (fun _ => ops_fresh))

end Cert.Proof.Ref

end
-- ==== Proof.Match.lean ====
/-
  The kernel's three results and the reference's are equal at the ideal values: over the extended reals, with no
  rounding, no order of addition left and no condition on the arguments.
-/
module

public import proofs.«01_k».proof.Proof.Host
public import proofs.«01_k».proof.Proof.Ref
public import Idealize.ShloMosaic.Lib.ValueLayout
public import Idealize.ShloMosaic.Lib.MatmulPlain
public import Idealize.ShloMosaic.Lib.IdealHost
public import Idealize.ShloMosaic.Lib.KernelVsHost
public import Idealize.ShloMosaic.Lib.Pipeline.Value

@[expose] public section

noncomputable section

namespace Cert.Proof.Match

open Cert.KernelIdeal Cert.KernelIdeal.Gen
open Cert.Proof.Values
open Idealize.ShloMosaic Idealize.ShloMosaic.ValueIdx
open scoped BigOperators

/-! ## The distances and the nearest code word -/

/-- The product is the same product: the kernel's rounding of the rows to bf16 changes nothing here. -/
theorem product_eq (X : FVec Ideal S16384x32 .f32) (B : FVec Ideal S32x8192 .f32) :
    (Host.dotGeneral dot_S16384x32_S32x8192_S16384x8192_1_0_0_1_n_n none (truncf .bf16 X bitsLt_bf16_f32 : FVec Ideal S16384x32 .bf16) B
        : FVec Ideal S16384x8192 .f32)
      = Host.dotGeneral Cert.ReferenceIdeal.dot_S16384x32_S32x8192_S16384x8192_1_0_0_1_n_n none X B := by
  funext j
  refine (Ideal.dotGeneral_apply dot_S16384x32_S32x8192_S16384x8192_1_0_0_1_n_n none .single _ B j).trans ?_
  exact (Ideal.dotGeneral_apply Cert.ReferenceIdeal.dot_S16384x32_S32x8192_S16384x8192_1_0_0_1_n_n none .single X B j).symm

theorem dist_eq (A : FVec Ideal S16x1024x32 .f32) (B : FVec Ideal S32x8192 .f32) : Host.dist A B = Ref.dist A B := by
  unfold Host.dist Ref.dist
  rw [product_eq]
  rfl

theorem leastAt_eq {s t u : Shape} {axes : List (Fin s.rank)} (x : FVec Ideal s .f32) (y : s.Idx → BitVec 32)
    (ix : FVec Ideal u .f32) (iy : u.Idx → BitVec 32) (h : s.ReducesTo axes t) (hu : 0 < u.numel) :
    Host.leastAt x y ix iy h hu = Ref.leastAt x y ix iy h hu := rfl

theorem nearest_eq (x : FVec Ideal S16384x8192 .f32) : Host.nearest x = Ref.nearest x := by
  unfold Host.nearest Ref.nearest
  exact leastAt_eq _ _ _ _ _ _

/-! ## The code words chosen -/

/-- Row `r` of the chosen code words: column `n r` of the code book. -/
def sel (n : S16384.Idx → BitVec 32) (B : FVec Ideal S32x8192 .f32) : Rows Ideal := fun x =>
  B (ix2 (⟨(x 1).val, idx2_lt1 x⟩ : Fin 32) (Fin.ofNat 8192 (n (ix1 (⟨(x 0).val, idx2_lt0 x⟩ : Fin 16384))).toNat))

/-- The kernel's table, read in its first 32 lanes. -/
theorem table_apply (B : FVec Ideal S32x8192 .f32) (k : Fin 8192) (c : Fin 32) :
    Host.table B (ix2 k (⟨c.val, by omega⟩ : Fin 128)) = B (ix2 c k) := by
  unfold Host.table
  refine (pad_apply_of_inside _ _ _ _ _ _ _ _ (ix2 k c) fun a => ?_).trans (transpose_ix2_apply B _ k c)
  match a with
  | ⟨0, _⟩ => show k.val = 0 + k.val * (0 + 1); omega
  | ⟨1, _⟩ => show c.val = 0 + c.val * (0 + 1); omega

/-- The row numbers, read at a line and a place in it. -/
theorem lines_apply (n : S16384.Idx → BitVec 32) (a b : Fin 128) :
    Host.lines n (ix2 a b) = n (ix1 (⟨128 * a.val + b.val, by omega⟩ : Fin 16384)) := by
  unfold Host.lines
  refine shapeCast_apply _ _ _ _ ?_
  rw [Shape.rowMajor_val_one, Shape.rowMajor_val_two]
  show 128 * a.val + b.val = a.val * 128 + b.val
  omega

/-- One row number as a row of zeros and one 1. -/
theorem oneHot_apply (n : S16384.Idx → BitVec 32) (r : Fin 16384) (k : Fin 8192) :
    Ref.oneHot (F := Ideal) n (ix2 r k) = if n (ix1 r) = BitVec.ofNat 32 k.val then 1 else 0 := by
  have e1 : broadcastInDim Cert.ReferenceIdeal.S16384x8192 ![0, 1] Cert.ReferenceIdeal.Facts₀.bcast_S16384x1_S16384x8192_0_1
      (broadcastInDim Cert.ReferenceIdeal.S16384x1 ![0] Cert.ReferenceIdeal.Facts₀.bcast_S16384_S16384x1_0 n) (ix2 r k) = n (ix1 r) := by
    refine (broadcastInDim_apply _ _ _ _ (ix2 r (0 : Fin 1)) fun a => ?_).trans (broadcastInDim_apply _ _ _ _ (ix1 r) fun a => ?_)
    · match a with
      | ⟨0, _⟩ => rfl
      | ⟨1, _⟩ => rfl
    · match a with
      | ⟨0, _⟩ => rfl
  have e2 : broadcastInDim Cert.ReferenceIdeal.S16384x8192 ![0, 1] Cert.ReferenceIdeal.Facts₀.bcast_S1x8192_S16384x8192_0_1
      (iotaInDim Cert.ReferenceIdeal.S1x8192 32 1) (ix2 r k) = BitVec.ofNat 32 k.val := by
    refine (broadcastInDim_apply _ _ _ _ (ix2 (0 : Fin 1) k) fun a => ?_).trans (iotaInDim_apply _ _ _)
    match a with
    | ⟨0, _⟩ => rfl
    | ⟨1, _⟩ => rfl
  unfold Ref.oneHot
  show (((IntOp.cmpi .eq _ _).toNat : ℝ) : EReal) = _
  rw [e1, e2]
  by_cases h : n (ix1 r) = BitVec.ofNat 32 k.val
  · rw [if_pos h, h]; simp [IntOp.cmpi]
  · rw [if_neg h]; simp [IntOp.cmpi, h]

/-- The product of the rows of zeros and one 1 with the code words is the chosen code words. -/
theorem product_oneHot (n : S16384.Idx → BitVec 32) (hn : ∀ j, (n j).toNat < 8192) (B : FVec Ideal S32x8192 .f32) :
    (Host.dotGeneral Cert.ReferenceIdeal.dot_S16384x8192_S8192x32_S16384x32_1_0_0_1_n_n none (Ref.oneHot (F := Ideal) n)
      (transpose Cert.ReferenceIdeal.S8192x32 [1, 0] B Cert.ReferenceIdeal.Facts₀.transposes_S32x8192_S8192x32_1_0) : FVec Ideal S16384x32 .f32)
      = sel n B := by
  funext x
  obtain ⟨r, c, rfl⟩ : ∃ r c, x = (ix2 r c : S16384x32.Idx) := ⟨_, _, eq_ix2 x⟩
  have hd : Cert.ReferenceIdeal.dot_S16384x8192_S8192x32_S16384x32_1_0_0_1_n_n = DotDims.plain 16384 8192 32 := rfl
  refine (Ideal.dotGeneral_apply Cert.ReferenceIdeal.dot_S16384x8192_S8192x32_S16384x32_1_0_0_1_n_n none .single _ _ (ix2 r c)).trans ?_
  rw [hd]
  refine (Ideal.matmul_constant_zero_apply (DotDims.plain 16384 8192 32) none (Ref.oneHot (F := Ideal) n)
    (transpose Cert.ReferenceIdeal.S8192x32 [1, 0] B Cert.ReferenceIdeal.Facts₀.transposes_S32x8192_S8192x32_1_0) (ix2 r c)).symm.trans ?_
  rw [Ideal.matmul_plain_apply]
  show Ideal.ofBits .f32 0x00000000#32 + _ = _
  rw [Ideal.ofBits_zero_f32, zero_add, Finset.sum_eq_single (Fin.ofNat 8192 (n (ix1 r)).toNat)]
  · rw [oneHot_apply, if_pos, one_mul]
    · exact transpose_ix2_apply B _ _ c
    · apply BitVec.eq_of_toNat_eq
      rw [BitVec.toNat_ofNat]
      have := hn (ix1 r)
      show _ = (n (ix1 r)).toNat % 8192 % _
      omega
  · intro k _ hk
    rw [oneHot_apply, if_neg, zero_mul]
    intro h
    apply hk
    apply Fin.ext
    rw [h, BitVec.toNat_ofNat]
    have := k.isLt
    show k.val = k.val % _ % 8192
    omega
  · intro h; exact absurd (Finset.mem_univ _) h

theorem chosen_eq (n : S16384.Idx → BitVec 32) (hn : ∀ j, (n j).toNat < 8192) (B : FVec Ideal S32x8192 .f32) :
    Ref.chosen (Ref.oneHot n) B = shapeCast S16x1024x32 (sel n B) shapeCasts_S16384x32_S16x1024x32 := by
  unfold Ref.chosen
  rw [product_oneHot n hn B]

/-! ## The first result -/

/-- The kernel's gathered row, in its first 32 lanes, is the chosen code word. -/
theorem row_eq (n : S16384.Idx → BitVec 32) (B : FVec Ideal S32x8192 .f32) (a b : Fin 128) (c : Fin 32) :
    Host.table B (ix2 (Fin.ofNat 8192 (Host.lines n (ix2 a b)).toNat) (⟨c.val, by omega⟩ : Fin 128))
      = sel n B (ix2 (⟨128 * a.val + b.val, by omega⟩ : Fin 16384) c) := by
  rw [table_apply, lines_apply]; rfl

theorem zqOut_apply (n : S16384.Idx → BitVec 32) (B : FVec Ideal S32x8192 .f32) (Z : Rows Ideal) (x : S16384x32.Idx) :
    zqOut (Host.table B) (Host.lines n) Z x = Z x + (sel n B x - Z x) := by
  have h0 := idx2_lt0 x
  have e := row_eq n B ⟨(x 0).val / 128, by omega⟩ ⟨(x 0).val % 128, by omega⟩ ⟨(x 1).val, idx2_lt1 x⟩
  have ex : (ix2 (⟨128 * ((x 0).val / 128) + (x 0).val % 128, by omega⟩ : Fin 16384) (⟨(x 1).val, idx2_lt1 x⟩ : Fin 32) : S16384x32.Idx) = x := by
    refine Eq.trans ?_ (eq_ix2 x).symm
    congr 1
    exact Fin.ext (by show 128 * ((x 0).val / 128) + (x 0).val % 128 = (x 0).val; omega)
  rw [ex] at e
  exact congrArg (fun q => Z x + (q - Z x)) e

theorem first_eq (n : S16384.Idx → BitVec 32) (A : FVec Ideal S16x1024x32 .f32) (B : FVec Ideal S32x8192 .f32) :
    shapeCast S16x1024x32 (zqOut (Host.table B) (Host.lines n) (Host.flat A)) shapeCasts_S16384x32_S16x1024x32
      = Ref.passed (shapeCast S16x1024x32 (sel n B) shapeCasts_S16384x32_S16x1024x32) A := by
  funext i
  have eA : A i = Host.flat A (Shape.reshapeEquiv shapeCasts_S16384x32_S16x1024x32 i) :=
    (congrFun (shapeCast_shapeCast A shapeCasts_S16x1024x32_S16384x32 shapeCasts_S16384x32_S16x1024x32) i).symm
  show zqOut _ _ _ (Shape.reshapeEquiv shapeCasts_S16384x32_S16x1024x32 i)
    = A i + (sel n B (Shape.reshapeEquiv shapeCasts_S16384x32_S16x1024x32 i) - A i)
  rw [zqOut_apply, eA]

/-! ## The loss -/

/-- The square of one difference. -/
def sq (n : S16384.Idx → BitVec 32) (B : FVec Ideal S32x8192 .f32) (Z : Rows Ideal) (x : S16384x32.Idx) : EReal :=
  (sel n B x - Z x) * (sel n B x - Z x)

/-- What one row adds to a lane's partial sum: two squares. -/
theorem accStep_apply (G : S512x128.Idx → Ideal .f32) (Z : S512x32.Idx → Ideal .f32) (a : FVec Ideal S16 .f32) (r : Fin 512)
    (l : Fin 16) (d : Fin 32 → EReal)
    (hd : ∀ c : Fin 32, d c = G (ix2 r (⟨c.val, by omega⟩ : Fin 128)) - Z (ix2 r c)) :
    accStep G Z a r (ix1 l) = a (ix1 l) + (d ⟨l.val, by omega⟩ * d ⟨l.val, by omega⟩ + d ⟨16 + l.val, by omega⟩ * d ⟨16 + l.val, by omega⟩) := by
  have hp1 : ∀ v : Vec Ideal S1x16 .f32, k0_pay1 v (ix1 l) = v (ix2 (0 : Fin 1) l) := fun v => shapeCast_1a_a_apply v _ l
  have hp2 : ∀ v : Vec Ideal S1x16 .f32, k0_pay2 v (ix1 l) = v (ix2 (0 : Fin 1) l) := fun v => shapeCast_1a_a_apply v _ l
  have hp4 : ∀ v : Vec Ideal S1x16 .f32, k0_pay4 v (ix1 l) = v (ix2 (0 : Fin 1) l) := fun v => shapeCast_1a_a_apply v _ l
  have hp5 : ∀ v : Vec Ideal S1x16 .f32, k0_pay5 v (ix1 l) = v (ix2 (0 : Fin 1) l) := fun v => shapeCast_1a_a_apply v _ l
  unfold accStep k0_pay7
  simp only [addf_apply, mulf_apply, subf_apply, hp1, hp2, hp4, hp5]
  rw [hd, hd, ← add_assoc]
  have e0 : (⟨0 + l.val, by omega⟩ : Fin 128) = ⟨l.val, by omega⟩ := Fin.ext (Nat.zero_add _)
  have e1 : (⟨0 + l.val, by omega⟩ : Fin 32) = ⟨l.val, by omega⟩ := Fin.ext (Nat.zero_add _)
  show _ + (G (ix2 r ⟨0 + l.val, _⟩) - Z (ix2 r ⟨0 + l.val, _⟩)) * (G (ix2 r ⟨0 + l.val, _⟩) - Z (ix2 r ⟨0 + l.val, _⟩)) + _ = _
  rw [e0, e1]
  rfl

/-- A lane's partial sum over the first `k` rows. -/
theorem accAt_apply (G : S512x128.Idx → Ideal .f32) (Z : S512x32.Idx → Ideal .f32) (d : Fin 512 → Fin 32 → EReal)
    (hd : ∀ r c, d r c = G (ix2 r (⟨c.val, by omega⟩ : Fin 128)) - Z (ix2 r c)) (l : Fin 16) (k : ℕ) (hk : k ≤ 512) :
    accAt G Z k (ix1 l) = ∑ r : Fin k,
      (d ⟨r.val, by omega⟩ ⟨l.val, by omega⟩ * d ⟨r.val, by omega⟩ ⟨l.val, by omega⟩
        + d ⟨r.val, by omega⟩ ⟨16 + l.val, by omega⟩ * d ⟨r.val, by omega⟩ ⟨16 + l.val, by omega⟩) := by
  induction k with
  | zero =>
    rw [Fin.sum_univ_zero]
    exact Ideal.ofBits_zero_f32
  | succ k ih =>
    have h : k < 512 := by omega
    rw [Fin.sum_univ_castSucc, accAt, dif_pos h, accStep_apply G Z _ ⟨k, h⟩ l (d ⟨k, h⟩) (hd _), ih (by omega)]
    rfl

/-- A worker's partial sum in one lane: the squares of two columns, over its 512 rows. -/
theorem lpOut_apply (n : S16384.Idx → BitVec 32) (B : FVec Ideal S32x8192 .f32) (Z : Rows Ideal) (w : Fin 32) (l : Fin 16) :
    lpOut (Host.table B) (Host.lines n) Z (ix2 w l) = ∑ k : Fin 512,
      (sq n B Z (ix2 (⟨512 * w.val + k.val, by omega⟩ : Fin 16384) (⟨l.val, by omega⟩ : Fin 32))
        + sq n B Z (ix2 (⟨512 * w.val + k.val, by omega⟩ : Fin 16384) (⟨16 + l.val, by omega⟩ : Fin 32))) := by
  refine accAt_apply (gOf (Host.table B) (Host.lines n) w) (rowsOf Z w)
    (fun r c => sel n B (ix2 (⟨512 * w.val + r.val, by omega⟩ : Fin 16384) c) - Z (ix2 (⟨512 * w.val + r.val, by omega⟩ : Fin 16384) c))
    (fun r c => ?_) l 512 le_rfl
  refine congrArg (· - Z (ix2 (⟨512 * w.val + r.val, by omega⟩ : Fin 16384) c)) ?_
  refine Eq.trans ?_ (row_eq n B ⟨4 * w.val + r.val / 128, by omega⟩ ⟨r.val % 128, by omega⟩ c).symm
  refine congrArg (fun q => sel n B (ix2 q c)) (Fin.ext ?_)
  show 512 * w.val + r.val = 128 * (4 * w.val + r.val / 128) + r.val % 128
  omega

/-- All the partial sums together are all the squares together. -/
theorem total_eq (n : S16384.Idx → BitVec 32) (B : FVec Ideal S32x8192 .f32) (Z : Rows Ideal) :
    ∑ x : S32x16.Idx, lpOut (Host.table B) (Host.lines n) Z x = ∑ x : S16384x32.Idx, sq n B Z x := by
  rw [sum_idx2, sum_idx2]
  simp only [lpOut_apply]
  have hcol : ∀ r : Fin 16384, ∑ c : Fin 32, sq n B Z (ix2 r c)
      = ∑ l : Fin 16, (sq n B Z (ix2 r (⟨l.val, by omega⟩ : Fin 32)) + sq n B Z (ix2 r (⟨16 + l.val, by omega⟩ : Fin 32))) := by
    intro r
    rw [Finset.sum_add_distrib]
    exact Fin.sum_univ_add (fun c : Fin (16 + 16) => sq n B Z (ix2 r c))
  have hrow : ∀ f : Fin 16384 → EReal, ∑ r : Fin 16384, f r
      = ∑ w : Fin 32, ∑ k : Fin 512, f ⟨512 * w.val + k.val, by omega⟩ := by
    intro f
    rw [← Equiv.sum_comp (finProdFinEquiv (m := 32) (n := 512)) f, Fintype.sum_prod_type]
    refine Finset.sum_congr rfl fun w _ => Finset.sum_congr rfl fun k _ => congrArg f (Fin.ext ?_)
    show k.val + 512 * w.val = 512 * w.val + k.val
    omega
  rw [hrow]
  refine Finset.sum_congr rfl fun w _ => ?_
  rw [Finset.sum_comm]
  exact Finset.sum_congr rfl fun k _ => (hcol _).symm

/-- The two means are equal. -/
theorem mean_eq (n : S16384.Idx → BitVec 32) (A : FVec Ideal S16x1024x32 .f32) (B : FVec Ideal S32x8192 .f32) :
    Host.mean (lpOut (Host.table B) (Host.lines n) (Host.flat A))
      = Ref.mean (shapeCast S16x1024x32 (sel n B) shapeCasts_S16384x32_S16x1024x32) A := by
  unfold Host.mean Ref.mean
  refine congrArg (fun s : FVec Ideal S_ .f32 => Host.divf s (constant S_ .f32 0x49000000#32)) (funext fun j => ?_)
  rw [hostReduceAdd_apply, hostReduceAdd_apply, Ideal.hostReduceAdd_total _ (fun b => b.elim0), Ideal.hostReduceAdd_total _ (fun b => b.elim0),
    total_eq]
  refine congrArg (_ + ·) ?_
  rw [← Equiv.sum_comp (Shape.reshapeEquiv shapeCasts_S16384x32_S16x1024x32)]
  refine Finset.sum_congr rfl fun i _ => ?_
  have eA : A i = Host.flat A (Shape.reshapeEquiv shapeCasts_S16384x32_S16x1024x32 i) :=
    (congrFun (shapeCast_shapeCast A shapeCasts_S16x1024x32_S16384x32 shapeCasts_S16384x32_S16x1024x32) i).symm
  show _ = (sel n B (Shape.reshapeEquiv shapeCasts_S16384x32_S16x1024x32 i) - A i)
    * (sel n B (Shape.reshapeEquiv shapeCasts_S16384x32_S16x1024x32 i) - A i)
  rw [eA]; rfl

theorem loss_eq (n : S16384.Idx → BitVec 32) (A : FVec Ideal S16x1024x32 .f32) (B : FVec Ideal S32x8192 .f32) :
    Host.loss (lpOut (Host.table B) (Host.lines n) (Host.flat A))
      = Ref.loss (shapeCast S16x1024x32 (sel n B) shapeCasts_S16384x32_S16x1024x32) A := by
  unfold Host.loss Ref.loss
  rw [mean_eq]

end Cert.Proof.Match

end
-- ==== Proof.lean ====
/- The five claims of `Cert.Claim`, put together: the three programs run and leave their arguments and the semaphores
   alone, nothing was rewritten between the kernel and its ideal text, and over the extended reals the kernel's three
   results are the reference's three results. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Run
public import proofs.«01_k».proof.Proof.Ref
public import proofs.«01_k».proof.Proof.Match
public import Idealize.ShloMosaic.Adequacy
public import Idealize.ShloMosaic.Init

@[expose] public section

noncomputable section

namespace Cert.Proof

open Idealize.ShloMosaic Idealize.SL.Sem Cert.Kernel

/-- The kernel at its bits runs, leaves its arguments unchanged and every semaphore at zero. -/
theorem frame_kernel : Cert.quiescent_Kernel := fun m ρ _ =>
  (θ_run Cert.KernelIdeal.defs _ _).mono (fun _ h => ⟨fun c => ⟨(h.1 c).2.2.2.1, (h.1 c).2.2.2.2⟩, h.2⟩) (Run.run_main (F := Bits) m ρ)

/-- The kernel at the ideal values runs, leaves its arguments unchanged and every semaphore at zero. -/
theorem frame_kernelIdeal : Cert.quiescent_KernelIdeal := fun m ρ _ =>
  (θ_run Cert.KernelIdeal.defs _ _).mono (fun _ h => ⟨fun c => ⟨(h.1 c).2.2.2.1, (h.1 c).2.2.2.2⟩, h.2⟩) (Run.run_main (F := Ideal) m ρ)

/-- The reference runs, leaves its arguments unchanged and every semaphore at zero. -/
theorem frame_referenceIdeal : Cert.quiescent_ReferenceIdeal := fun m ρ _ =>
  (θ_run Cert.ReferenceIdeal.defs _ _).mono (fun _ h => ⟨fun c => ⟨(h.1 c).2.2.2.1, (h.1 c).2.2.2.2⟩, h.2⟩) (Ref.run_main (F := Ideal) m ρ)

/-- The quantized rows: the reference's are the kernel's. -/
theorem outZ_eq (A : FVec Ideal Cert.KernelIdeal.S16x1024x32 .f32) (B : FVec Ideal Cert.KernelIdeal.S32x8192 .f32) :
    Ref.passed (Ref.quant A B) A = Run.outZ A B := by
  unfold Ref.quant Run.outZ
  rw [← Match.dist_eq, ← Match.nearest_eq, Match.chosen_eq _ (Host.nearest_lt _), Match.first_eq]

/-- The row numbers: the reference's are the kernel's. -/
theorem outI_eq (A : FVec Ideal Cert.KernelIdeal.S16x1024x32 .f32) (B : FVec Ideal Cert.KernelIdeal.S32x8192 .f32) :
    Ref.nearest (Ref.dist A B) = Run.outI A B := by
  unfold Run.outI
  rw [← Match.dist_eq, ← Match.nearest_eq]

/-- The loss: the reference's is the kernel's. -/
theorem outL_eq (A : FVec Ideal Cert.KernelIdeal.S16x1024x32 .f32) (B : FVec Ideal Cert.KernelIdeal.S32x8192 .f32) :
    Ref.loss (Ref.quant A B) A = Run.outL A B := by
  unfold Ref.quant Run.outL
  rw [← Match.dist_eq, ← Match.nearest_eq, Match.chosen_eq _ (Host.nearest_lt _), Match.loss_eq]

/-- The kernel and the reference, from equal arguments, end with the same three results. -/
theorem algebraic : Cert.algebraic_KernelIdeal_ReferenceIdeal := fun m g m' g' _ hm =>
  ⟨fun c => Run.outZ (Run.argA m c) (Run.argB m c), fun c => Run.outI (Run.argA m c) (Run.argB m c),
    fun c => Run.outL (Run.argA m c) (Run.argB m c),
    (θ_run Cert.KernelIdeal.defs _ _).mono (fun _ h c => h.1 c) (Run.run_main (F := Ideal) m g),
    (θ_run Cert.ReferenceIdeal.defs _ _).mono (fun _ h c => by
      have hA : Ref.argA m' c = Run.argA m c := (hm c).1
      have hB : Ref.argB m' c = Run.argB m c := (hm c).2
      obtain ⟨h0, h1, h2, ha, hb⟩ := h.1 c
      rw [hA, hB] at h0 h1 h2
      exact ⟨h0.trans (outZ_eq _ _), h1.trans (outI_eq _ _), h2.trans (outL_eq _ _), ha, hb⟩) (Ref.run_main (F := Ideal) m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
